-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x384x384x256 : Shape := ⟨4, ![1, 384, 384, 256]⟩
abbrev S128x256 : Shape := ⟨2, ![128, 256]⟩
abbrev S128 : Shape := ⟨1, ![128]⟩
abbrev S256 : Shape := ⟨1, ![256]⟩
abbrev S256x256 : Shape := ⟨2, ![256, 256]⟩
abbrev S256x128 : Shape := ⟨2, ![256, 128]⟩
abbrev S_ : Shape := ⟨0, ![]⟩

class Facts : Prop where
  bcast_S_S1x384x384x256 : S_.BroadcastsInDim S1x384x384x256 (![] : Fin 0 → Fin S1x384x384x256.rank)
  reducesTo_S1x384x384x256_S_d0_1_2_3 : S1x384x384x256.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S1x384x384x256 .f32) (main_arg1 : FVec F S128x256 .f32) (main_arg2 : FVec F S128 .f32) (main_arg3 : FVec F S128x256 .f32) (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_arg11 : FVec F S128x256 .f32) (main_arg12 : FVec F S128 .f32) (main_arg13 : FVec F S128x256 .f32) (main_arg14 : FVec F S128 .f32) (main_arg15 : FVec F S128x256 .f32) (main_arg16 : FVec F S128 .f32) (main_arg17 : FVec F S256 .f32) (main_arg18 : FVec F S256 .f32) (main_arg19 : FVec F S128 .f32) (main_arg20 : FVec F S128 .f32) (main_arg21 : FVec F S256x256 .f32) (main_arg22 : FVec F S256 .f32) (main_arg23 : FVec F S256x128 .f32) (main_arg24 : FVec F S256 .f32) : IVec S_ 1 :=
  let main_v0 : FVec F S1x384x384x256 .f32 := Host.absf main_arg0
  let main_cst : FVec F S_ .f32 := constant S_ .f32 0x7F800000#32
  let main_v1 : FVec F S1x384x384x256 .f32 := broadcastInDim S1x384x384x256 ![] bcast_S_S1x384x384x256 main_cst
  let main_v2 : IVec S1x384x384x256 1 := cmpf .olt main_v0 main_v1
  let main_c : IVec S_ 1 := constantI S_ 1 1#1
  let main_v3 : IVec S_ 1 := (fun x v => Host.reduce IntOp.andi x v reducesTo_S1x384x384x256_S_d0_1_2_3 h_S_) main_v2 main_c
  let main_v4 : FVec F S256x128 .f32 := Host.absf main_arg23
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg20
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S1x384x384x256 : Shape := ⟨4, ![1, 384, 384, 256]⟩
abbrev S128x256 : Shape := ⟨2, ![128, 256]⟩
abbrev S128 : Shape := ⟨1, ![128]⟩
abbrev S256 : Shape := ⟨1, ![256]⟩
abbrev S256x256 : Shape := ⟨2, ![256, 256]⟩
abbrev S256x128 : Shape := ⟨2, ![256, 128]⟩
abbrev S147456x256 : Shape := ⟨2, ![147456, 256]⟩
abbrev S1024x256 : Shape := ⟨2, ![1024, 256]⟩
abbrev S512 : Shape := ⟨1, ![512]⟩
abbrev S512x1 : Shape := ⟨2, ![512, 1]⟩
abbrev S512x128 : Shape := ⟨2, ![512, 128]⟩
abbrev S1x256 : Shape := ⟨2, ![1, 256]⟩
abbrev S512x147456 : Shape := ⟨2, ![512, 147456]⟩
abbrev S2048x256 : Shape := ⟨2, ![2048, 256]⟩
abbrev S512x2048 : Shape := ⟨2, ![512, 2048]⟩
abbrev S2048 : Shape := ⟨1, ![2048]⟩
abbrev S2048x1 : Shape := ⟨2, ![2048, 1]⟩
abbrev S1024x2048 : Shape := ⟨2, ![1024, 2048]⟩
abbrev S512x384x384 : Shape := ⟨3, ![512, 384, 384]⟩
abbrev S128x384x384 : Shape := ⟨3, ![128, 384, 384]⟩
abbrev S16x384x384 : Shape := ⟨3, ![16, 384, 384]⟩
abbrev S1x384x384 : Shape := ⟨3, ![1, 384, 384]⟩
abbrev S384x384 : Shape := ⟨2, ![384, 384]⟩
abbrev S128x1 : Shape := ⟨2, ![128, 1]⟩
abbrev S128x147456 : Shape := ⟨2, ![128, 147456]⟩
abbrev S128x16384 : Shape := ⟨2, ![128, 16384]⟩
abbrev S16384x256 : Shape := ⟨2, ![16384, 256]⟩
abbrev S16384 : Shape := ⟨1, ![16384]⟩
abbrev S1x16384 : Shape := ⟨2, ![1, 16384]⟩

abbrev nBuf : Space → Nat
  | .hbm => 55
  | .vmem => 32
  | .smem => 0
  | _ => 0

abbrev bufTy : (tb : Table) → Fin (tcTables nBuf tb) → BufTy
  | .hbm, ⟨0, _⟩ => ⟨S1x384x384x256, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x256, .f32⟩
  | .hbm, ⟨12, _⟩ => ⟨S128, .f32⟩
  | .hbm, ⟨13, _⟩ => ⟨S128x256, .f32⟩
  | .hbm, ⟨14, _⟩ => ⟨S128, .f32⟩
  | .hbm, ⟨15, _⟩ => ⟨S128x256, .f32⟩
  | .hbm, ⟨16, _⟩ => ⟨S128, .f32⟩
  | .hbm, ⟨17, _⟩ => ⟨S256, .f32⟩
  | .hbm, ⟨18, _⟩ => ⟨S256, .f32⟩
  | .hbm, ⟨19, _⟩ => ⟨S128, .f32⟩
  | .hbm, ⟨20, _⟩ => ⟨S128, .f32⟩
  | .hbm, ⟨21, _⟩ => ⟨S256x256, .f32⟩
  | .hbm, ⟨22, _⟩ => ⟨S256, .f32⟩
  | .hbm, ⟨23, _⟩ => ⟨S256x128, .f32⟩
  | .hbm, ⟨24, _⟩ => ⟨S256, .f32⟩
  | .hbm, ⟨25, _⟩ => ⟨S147456x256, .f32⟩
  | .hbm, ⟨26, _⟩ => ⟨S1024x256, .f32⟩
  | .hbm, ⟨27, _⟩ => ⟨S1024x256, .bf16⟩
  | .hbm, ⟨28, _⟩ => ⟨S256x256, .f32⟩
  | .hbm, ⟨29, _⟩ => ⟨S256x256, .bf16⟩
  | .hbm, ⟨30, _⟩ => ⟨S512, .f32⟩
  | .hbm, ⟨31, _⟩ => ⟨S512, .f32⟩
  | .hbm, ⟨32, _⟩ => ⟨S512x1, .f32⟩
  | .hbm, ⟨33, _⟩ => ⟨S512x128, .f32⟩
  | .hbm, ⟨34, _⟩ => ⟨S512x1, .f32⟩
  | .hbm, ⟨35, _⟩ => ⟨S512x128, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S512x147456, .bf16⟩
  | .hbm, ⟨40, _⟩ => ⟨S147456x256, .bf16⟩
  | .hbm, ⟨41, _⟩ => ⟨S512x384x384, .bf16⟩
  | .hbm, ⟨42, _⟩ => ⟨S128x384x384, .bf16⟩
  | .hbm, ⟨43, _⟩ => ⟨S128x256, .f32⟩
  | .hbm, ⟨44, _⟩ => ⟨S128x1, .f32⟩
  | .hbm, ⟨45, _⟩ => ⟨S128x256, .f32⟩
  | .hbm, ⟨46, _⟩ => ⟨S128x256, .f32⟩
  | .hbm, ⟨47, _⟩ => ⟨S128x256, .bf16⟩
  | .hbm, ⟨48, _⟩ => ⟨S128x256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S128x147456, .bf16⟩
  | .hbm, ⟨53, _⟩ => ⟨S147456x256, .f32⟩
  | .hbm, ⟨54, _⟩ => ⟨S1x384x384x256, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S256x256, .bf16⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S512x2048, .bf16⟩
  | .local _ .vmem, ⟨10, _⟩ => ⟨S512x2048, .bf16⟩
  | .local _ .vmem, ⟨11, _⟩ => ⟨S2048x256, .bf16⟩
  | .local _ .vmem, ⟨12, _⟩ => ⟨S2048x256, .bf16⟩
  | .local _ .vmem, ⟨13, _⟩ => ⟨S16x384x384, .bf16⟩
  | .local _ .vmem, ⟨14, _⟩ => ⟨S16x384x384, .bf16⟩
  | .local _ .vmem, ⟨15, _⟩ => ⟨S16x384x384, .bf16⟩
  | .local _ .vmem, ⟨16, _⟩ => ⟨S16x384x384, .bf16⟩
  | .local _ .vmem, ⟨17, _⟩ => ⟨S16x384x384, .bf16⟩
  | .local _ .vmem, ⟨18, _⟩ => ⟨S16x384x384, .bf16⟩
  | .local _ .vmem, ⟨19, _⟩ => ⟨S16x384x384, .bf16⟩
  | .local _ .vmem, ⟨20, _⟩ => ⟨S16x384x384, .bf16⟩
  | .local _ .vmem, ⟨21, _⟩ => ⟨S16x384x384, .bf16⟩
  | .local _ .vmem, ⟨22, _⟩ => ⟨S16x384x384, .bf16⟩
  | .local _ .vmem, ⟨23, _⟩ => ⟨S128x16384, .bf16⟩
  | .local _ .vmem, ⟨24, _⟩ => ⟨S128x16384, .bf16⟩
  | .local _ .vmem, ⟨25, _⟩ => ⟨S16384x256, .bf16⟩
  | .local _ .vmem, ⟨26, _⟩ => ⟨S16384x256, .bf16⟩
  | .local _ .vmem, ⟨27, _⟩ => ⟨S128x256, .bf16⟩
  | .local _ .vmem, ⟨28, _⟩ => ⟨S1x256, .f32⟩
  | .local _ .vmem, ⟨29, _⟩ => ⟨S1x256, .f32⟩
  | .local _ .vmem, ⟨30, _⟩ => ⟨S16384x256, .f32⟩
  | .local _ .vmem, ⟨31, _⟩ => ⟨S16384x256, .f32⟩
  | _, _ => ⟨S1x384x384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14_0 : Ref sig .tc := ⟨.hbm, 39, rfl⟩
abbrev main_v14_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x384x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x384x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x384x384 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x384x384 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x384x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![9], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x16384 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S16384x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S1x384x384x256 : Shape := ⟨4, ![1, 384, 384, 256]⟩
abbrev S128x256 : Shape := ⟨2, ![128, 256]⟩
abbrev S128 : Shape := ⟨1, ![128]⟩
abbrev S256 : Shape := ⟨1, ![256]⟩
abbrev S256x256 : Shape := ⟨2, ![256, 256]⟩
abbrev S256x128 : Shape := ⟨2, ![256, 128]⟩
abbrev S_ : Shape := ⟨0, ![]⟩
abbrev S1x384x384 : Shape := ⟨3, ![1, 384, 384]⟩
abbrev S1x384x384x1 : Shape := ⟨4, ![1, 384, 384, 1]⟩
abbrev S1x1x1x256 : Shape := ⟨4, ![1, 1, 1, 256]⟩
abbrev S1x384x384x128 : Shape := ⟨4, ![1, 384, 384, 128]⟩
abbrev S1x1x1x128 : Shape := ⟨4, ![1, 1, 1, 128]⟩
abbrev S1x128x384x384 : Shape := ⟨4, ![1, 128, 384, 384]⟩

abbrev nBuf : Space → Nat
  | .hbm => 213
  | .vmem => 0
  | .smem => 0
  | _ => 0

abbrev hbmTy0_0 (i : Nat) : BufTy := match i % 128 with
  | 0 => ⟨S1x384x384x256, .f32⟩
  | 1 => ⟨S128x256, .f32⟩
  | 2 => ⟨S128, .f32⟩
  | 3 => ⟨S128x256, .f32⟩
  | 4 => ⟨S128, .f32⟩
  | 5 => ⟨S128x256, .f32⟩
  | 6 => ⟨S128, .f32⟩
  | 7 => ⟨S128x256, .f32⟩
  | 8 => ⟨S128, .f32⟩
  | 9 => ⟨S128x256, .f32⟩
  | 10 => ⟨S128, .f32⟩
  | 11 => ⟨S128x256, .f32⟩
  | 12 => ⟨S128, .f32⟩
  | 13 => ⟨S128x256, .f32⟩
  | 14 => ⟨S128, .f32⟩
  | 15 => ⟨S128x256, .f32⟩
  | 16 => ⟨S128, .f32⟩
  | 17 => ⟨S256, .f32⟩
  | 18 => ⟨S256, .f32⟩
  | 19 => ⟨S128, .f32⟩
  | 20 => ⟨S128, .f32⟩
  | 21 => ⟨S256x256, .f32⟩
  | 22 => ⟨S256, .f32⟩
  | 23 => ⟨S256x128, .f32⟩
  | 24 => ⟨S256, .f32⟩
  | 25 => ⟨S_, .f32⟩
  | 26 => ⟨S1x384x384, .f32⟩
  | 27 => ⟨S1x384x384x1, .f32⟩
  | 28 => ⟨S_, .f32⟩
  | 29 => ⟨S1x384x384x1, .f32⟩
  | 30 => ⟨S1x384x384x1, .f32⟩
  | 31 => ⟨S_, .i32⟩
  | 32 => ⟨S_, .f32⟩
  | 33 => ⟨S1x384x384, .f32⟩
  | 34 => ⟨S1x384x384x1, .f32⟩
  | 35 => ⟨S_, .f32⟩
  | 36 => ⟨S1x384x384x1, .f32⟩
  | 37 => ⟨S1x384x384x1, .f32⟩
  | 38 => ⟨S1x384x384x256, .f32⟩
  | 39 => ⟨S1x384x384x256, .f32⟩
  | 40 => ⟨S1x384x384x256, .f32⟩
  | 41 => ⟨S_, .f32⟩
  | 42 => ⟨S_, .f32⟩
  | 43 => ⟨S_, .f32⟩
  | 44 => ⟨S_, .f32⟩
  | 45 => ⟨S1x384x384, .f32⟩
  | 46 => ⟨S1x384x384x1, .f32⟩
  | 47 => ⟨S1x384x384x1, .f32⟩
  | 48 => ⟨S1x384x384x1, .f32⟩
  | 49 => ⟨S_, .f32⟩
  | 50 => ⟨S_, .i1⟩
  | 51 => ⟨S_, .f32⟩
  | 52 => ⟨S_, .f32⟩
  | 53 => ⟨S1x384x384x1, .f32⟩
  | 54 => ⟨S1x384x384x1, .f32⟩
  | 55 => ⟨S1x384x384x256, .f32⟩
  | 56 => ⟨S1x384x384x256, .f32⟩
  | 57 => ⟨S_, .f32⟩
  | 58 => ⟨S1x384x384x1, .f32⟩
  | 59 => ⟨S1x384x384x1, .f32⟩
  | 60 => ⟨S1x384x384x1, .f32⟩
  | 61 => ⟨S1x384x384x256, .f32⟩
  | 62 => ⟨S1x384x384x256, .f32⟩
  | 63 => ⟨S1x1x1x256, .f32⟩
  | 64 => ⟨S1x384x384x256, .f32⟩
  | 65 => ⟨S1x384x384x256, .f32⟩
  | 66 => ⟨S1x1x1x256, .f32⟩
  | 67 => ⟨S1x384x384x256, .f32⟩
  | 68 => ⟨S1x384x384x256, .f32⟩
  | 69 => ⟨S256x128, .f32⟩
  | 70 => ⟨S1x384x384x128, .f32⟩
  | 71 => ⟨S1x1x1x128, .f32⟩
  | 72 => ⟨S1x384x384x128, .f32⟩
  | 73 => ⟨S1x384x384x128, .f32⟩
  | 74 => ⟨S1x384x384x128, .f32⟩
  | 75 => ⟨S1x384x384x128, .f32⟩
  | 76 => ⟨S_, .f32⟩
  | 77 => ⟨S1x384x384x128, .f32⟩
  | 78 => ⟨S1x384x384x128, .f32⟩
  | 79 => ⟨S_, .f32⟩
  | 80 => ⟨S1x384x384x128, .f32⟩
  | 81 => ⟨S1x384x384x128, .f32⟩
  | 82 => ⟨S256x128, .f32⟩
  | 83 => ⟨S1x384x384x128, .f32⟩
  | 84 => ⟨S1x1x1x128, .f32⟩
  | 85 => ⟨S1x384x384x128, .f32⟩
  | 86 => ⟨S1x384x384x128, .f32⟩
  | 87 => ⟨S1x384x384x128, .f32⟩
  | 88 => ⟨S256x128, .f32⟩
  | 89 => ⟨S1x384x384x128, .f32⟩
  | 90 => ⟨S1x1x1x128, .f32⟩
  | 91 => ⟨S1x384x384x128, .f32⟩
  | 92 => ⟨S1x384x384x128, .f32⟩
  | 93 => ⟨S1x384x384x128, .f32⟩
  | 94 => ⟨S1x384x384x128, .f32⟩
  | 95 => ⟨S_, .f32⟩
  | 96 => ⟨S1x384x384x128, .f32⟩
  | 97 => ⟨S1x384x384x128, .f32⟩
  | 98 => ⟨S_, .f32⟩
  | 99 => ⟨S1x384x384x128, .f32⟩
  | 100 => ⟨S1x384x384x128, .f32⟩
  | 101 => ⟨S256x128, .f32⟩
  | 102 => ⟨S1x384x384x128, .f32⟩
  | 103 => ⟨S1x1x1x128, .f32⟩
  | 104 => ⟨S1x384x384x128, .f32⟩
  | 105 => ⟨S1x384x384x128, .f32⟩
  | 106 => ⟨S1x384x384x128, .f32⟩
  | 107 => ⟨S256x128, .f32⟩
  | 108 => ⟨S1x384x384x128, .f32⟩
  | 109 => ⟨S1x1x1x128, .f32⟩
  | 110 => ⟨S1x384x384x128, .f32⟩
  | 111 => ⟨S1x384x384x128, .f32⟩
  | 112 => ⟨S1x384x384x128, .f32⟩
  | 113 => ⟨S1x384x384x128, .f32⟩
  | 114 => ⟨S_, .f32⟩
  | 115 => ⟨S1x384x384x128, .f32⟩
  | 116 => ⟨S1x384x384x128, .f32⟩
  | 117 => ⟨S_, .f32⟩
  | 118 => ⟨S1x384x384x128, .f32⟩
  | 119 => ⟨S1x384x384x128, .f32⟩
  | 120 => ⟨S256x128, .f32⟩
  | 121 => ⟨S1x384x384x128, .f32⟩
  | 122 => ⟨S1x1x1x128, .f32⟩
  | 123 => ⟨S1x384x384x128, .f32⟩
  | 124 => ⟨S1x384x384x128, .f32⟩
  | 125 => ⟨S1x384x384x128, .f32⟩
  | 126 => ⟨S256x128, .f32⟩
  | 127 => ⟨S1x384x384x128, .f32⟩
  | _ => ⟨S1x384x384x256, .f32⟩

abbrev hbmTy0_1 (i : Nat) : BufTy := match i % 128 with
  | 0 => ⟨S1x1x1x128, .f32⟩
  | 1 => ⟨S1x384x384x128, .f32⟩
  | 2 => ⟨S1x384x384x128, .f32⟩
  | 3 => ⟨S1x384x384x128, .f32⟩
  | 4 => ⟨S1x384x384x128, .f32⟩
  | 5 => ⟨S_, .f32⟩
  | 6 => ⟨S1x384x384x128, .f32⟩
  | 7 => ⟨S1x384x384x128, .f32⟩
  | 8 => ⟨S_, .f32⟩
  | 9 => ⟨S1x384x384x128, .f32⟩
  | 10 => ⟨S1x384x384x128, .f32⟩
  | 11 => ⟨S256x128, .f32⟩
  | 12 => ⟨S1x384x384x128, .f32⟩
  | 13 => ⟨S1x1x1x128, .f32⟩
  | 14 => ⟨S1x384x384x128, .f32⟩
  | 15 => ⟨S1x384x384x128, .f32⟩
  | 16 => ⟨S1x384x384x128, .f32⟩
  | 17 => ⟨S1x128x384x384, .f32⟩
  | 18 => ⟨S1x384x384x128, .f32⟩
  | 19 => ⟨S1x128x384x384, .f32⟩
  | 20 => ⟨S1x384x384x128, .f32⟩
  | 21 => ⟨S1x384x384x128, .f32⟩
  | 22 => ⟨S256x256, .f32⟩
  | 23 => ⟨S1x384x384x256, .f32⟩
  | 24 => ⟨S1x1x1x256, .f32⟩
  | 25 => ⟨S1x384x384x256, .f32⟩
  | 26 => ⟨S1x384x384x256, .f32⟩
  | 27 => ⟨S1x384x384x256, .f32⟩
  | 28 => ⟨S1x384x384x256, .f32⟩
  | 29 => ⟨S_, .f32⟩
  | 30 => ⟨S1x384x384x256, .f32⟩
  | 31 => ⟨S1x384x384x256, .f32⟩
  | 32 => ⟨S_, .f32⟩
  | 33 => ⟨S1x384x384x256, .f32⟩
  | 34 => ⟨S1x384x384x256, .f32⟩
  | 35 => ⟨S_, .f32⟩
  | 36 => ⟨S1x384x384, .f32⟩
  | 37 => ⟨S1x384x384x1, .f32⟩
  | 38 => ⟨S_, .f32⟩
  | 39 => ⟨S1x384x384x1, .f32⟩
  | 40 => ⟨S1x384x384x1, .f32⟩
  | 41 => ⟨S_, .i32⟩
  | 42 => ⟨S_, .f32⟩
  | 43 => ⟨S1x384x384, .f32⟩
  | 44 => ⟨S1x384x384x1, .f32⟩
  | 45 => ⟨S_, .f32⟩
  | 46 => ⟨S1x384x384x1, .f32⟩
  | 47 => ⟨S1x384x384x1, .f32⟩
  | 48 => ⟨S1x384x384x128, .f32⟩
  | 49 => ⟨S1x384x384x128, .f32⟩
  | 50 => ⟨S1x384x384x128, .f32⟩
  | 51 => ⟨S_, .f32⟩
  | 52 => ⟨S_, .f32⟩
  | 53 => ⟨S_, .f32⟩
  | 54 => ⟨S_, .f32⟩
  | 55 => ⟨S1x384x384, .f32⟩
  | 56 => ⟨S1x384x384x1, .f32⟩
  | 57 => ⟨S1x384x384x1, .f32⟩
  | 58 => ⟨S1x384x384x1, .f32⟩
  | 59 => ⟨S_, .f32⟩
  | 60 => ⟨S_, .i1⟩
  | 61 => ⟨S_, .f32⟩
  | 62 => ⟨S_, .f32⟩
  | 63 => ⟨S1x384x384x1, .f32⟩
  | 64 => ⟨S1x384x384x1, .f32⟩
  | 65 => ⟨S1x384x384x128, .f32⟩
  | 66 => ⟨S1x384x384x128, .f32⟩
  | 67 => ⟨S_, .f32⟩
  | 68 => ⟨S1x384x384x1, .f32⟩
  | 69 => ⟨S1x384x384x1, .f32⟩
  | 70 => ⟨S1x384x384x1, .f32⟩
  | 71 => ⟨S1x384x384x128, .f32⟩
  | 72 => ⟨S1x384x384x128, .f32⟩
  | 73 => ⟨S1x1x1x128, .f32⟩
  | 74 => ⟨S1x384x384x128, .f32⟩
  | 75 => ⟨S1x384x384x128, .f32⟩
  | 76 => ⟨S1x1x1x128, .f32⟩
  | 77 => ⟨S1x384x384x128, .f32⟩
  | 78 => ⟨S1x384x384x128, .f32⟩
  | 79 => ⟨S128x256, .f32⟩
  | 80 => ⟨S1x384x384x256, .f32⟩
  | 81 => ⟨S1x1x1x256, .f32⟩
  | 82 => ⟨S1x384x384x256, .f32⟩
  | 83 => ⟨S1x384x384x256, .f32⟩
  | 84 => ⟨S1x384x384x256, .f32⟩
  | _ => ⟨S1x384x384x256, .f32⟩

abbrev hbmTy (i : Nat) : BufTy := match i / 128 with
  | 0 => hbmTy0_0 i
  | 1 => hbmTy0_1 i
  | _ => ⟨S1x384x384x256, .f32⟩

abbrev bufTy : (tb : Table) → Fin (tcTables nBuf tb) → BufTy
  | .hbm, ⟨i, _⟩ => hbmTy i
  | _, _ => ⟨S1x384x384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_cst_3 : Ref sig .tc := ⟨.hbm, 49, rfl⟩
abbrev main_call0_v13 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst_1 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_cst_2 : Ref sig .tc := ⟨.hbm, 76, rfl⟩
abbrev main_v25 : Ref sig .tc := ⟨.hbm, 77, rfl⟩
abbrev main_v26 : Ref sig .tc := ⟨.hbm, 78, rfl⟩
abbrev main_cst_3 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst_4 : Ref sig .tc := ⟨.hbm, 95, rfl⟩
abbrev main_v42 : Ref sig .tc := ⟨.hbm, 96, rfl⟩
abbrev main_v43 : Ref sig .tc := ⟨.hbm, 97, rfl⟩
abbrev main_cst_5 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_6 : Ref sig .tc := ⟨.hbm, 114, rfl⟩
abbrev main_v59 : Ref sig .tc := ⟨.hbm, 115, rfl⟩
abbrev main_v60 : Ref sig .tc := ⟨.hbm, 116, rfl⟩
abbrev main_cst_7 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_8 : Ref sig .tc := ⟨.hbm, 133, rfl⟩
abbrev main_v76 : Ref sig .tc := ⟨.hbm, 134, rfl⟩
abbrev main_v77 : Ref sig .tc := ⟨.hbm, 135, rfl⟩
abbrev main_cst_9 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_10 : Ref sig .tc := ⟨.hbm, 157, rfl⟩
abbrev main_v98 : Ref sig .tc := ⟨.hbm, 158, rfl⟩
abbrev main_v99 : Ref sig .tc := ⟨.hbm, 159, rfl⟩
abbrev main_cst_11 : Ref sig .tc := ⟨.hbm, 160, rfl⟩
abbrev main_v100 : Ref sig .tc := ⟨.hbm, 161, rfl⟩
abbrev main_v101 : Ref sig .tc := ⟨.hbm, 162, rfl⟩
abbrev main_cst_12 : Ref sig .tc := ⟨.hbm, 163, rfl⟩
abbrev main_v102 : Ref sig .tc := ⟨.hbm, 164, rfl⟩
abbrev main_v103 : Ref sig .tc := ⟨.hbm, 165, rfl⟩
abbrev main_cst_13 : Ref sig .tc := ⟨.hbm, 166, rfl⟩
abbrev main_v104 : Ref sig .tc := ⟨.hbm, 167, rfl⟩
abbrev main_v105 : Ref sig .tc := ⟨.hbm, 168, rfl⟩
abbrev main_c_14 : Ref sig .tc := ⟨.hbm, 169, rfl⟩
abbrev main_call1_cst : Ref sig .tc := ⟨.hbm, 170, rfl⟩
abbrev main_call1_v0 : Ref sig .tc := ⟨.hbm, 171, rfl⟩
abbrev main_call1_v1 : Ref sig .tc := ⟨.hbm, 172, rfl⟩
abbrev main_call1_cst_0 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_call1_v5 : Ref sig .tc := ⟨.hbm, 177, rfl⟩
abbrev main_call1_v6 : Ref sig .tc := ⟨.hbm, 178, rfl⟩
abbrev main_call1_v7 : Ref sig .tc := ⟨.hbm, 179, rfl⟩
abbrev main_call1_cst_1 : Ref sig .tc := ⟨.hbm, 180, rfl⟩
abbrev main_call1_v8 : Ref sig .tc := ⟨.hbm, 181, rfl⟩
abbrev main_call1_cst_2 : Ref sig .tc := ⟨.hbm, 182, rfl⟩
abbrev main_call1_v9 : Ref sig .tc := ⟨.hbm, 183, rfl⟩
abbrev main_call1_v10 : Ref sig .tc := ⟨.hbm, 184, rfl⟩
abbrev main_call1_v11 : Ref sig .tc := ⟨.hbm, 185, rfl⟩
abbrev main_call1_v12 : Ref sig .tc := ⟨.hbm, 186, rfl⟩
abbrev main_call1_cst_3 : Ref sig .tc := ⟨.hbm, 187, rfl⟩
abbrev main_call1_v13 : Ref sig .tc := ⟨.hbm, 188, rfl⟩
abbrev main_call1_cst_4 : Ref sig .tc := ⟨.hbm, 189, rfl⟩
abbrev main_call1_call0_v0 : Ref sig .tc := ⟨.hbm, 190, rfl⟩
abbrev main_call1_call0_v1 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_cst_15 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩

abbrev nD : Nat := 1
abbrev τ : Topo := Topo.v7x

variable {F : FTy → Type} [FloatOps F]
-- ==== Proof.Spec.lean ====
/- The scalar functions both programs compute, over the extended reals and without arrays: the first normalisation in the
   kernel's form and in the reference's, one gated projection in both forms, the product of two row products, the second
   normalisation, and the last projection with its gate. -/
module

public import Idealize.ShloMosaic.Lib.Pointwise

@[expose] public section

noncomputable section

namespace Cert.Spec

open Idealize.ShloMosaic

/-- The width 256 of the pair representation, as the programs write it. -/
abbrev width : EReal := Ideal.ofBits .f32 0x43800000#32
/-- The width 128 of the product, as the programs write it. -/
abbrev channels : EReal := Ideal.ofBits .f32 0x43000000#32
/-- The small number under both square roots. -/
abbrev eps : EReal := Ideal.ofBits .f32 0x3727C5AC#32
/-- One half. -/
abbrev half : EReal := Ideal.ofBits .f32 0x3F000000#32

/-- The mean of a row of 256. -/
def mean (x : Fin 256 → EReal) : EReal := Ideal.div (∑ k, x k) width

/-- The variance of a row as the kernel takes it: the mean of the squares less the square of the mean. -/
def varSquares (x : Fin 256 → EReal) : EReal := Ideal.div (∑ k, x k * x k) width - mean x * mean x

/-- The variance of a row as the reference takes it: the mean of the squared distances from the mean. -/
def varCentred (x : Fin 256 → EReal) : EReal := Ideal.div (∑ k, (x k - mean x) * (x k - mean x)) width

/-- A row normalised with variance `v`, scaled by `w` and shifted by `b`, at `d`. -/
def normWith (v : EReal) (x w b : Fin 256 → EReal) (d : Fin 256) : EReal :=
  (x d - mean x) * Ideal.rsqrt (v + eps) * w d + b d

/-- One entry of a gated projection as the kernel computes it: `g` and `p` are the gate's and the projection's weight
    rows, `gb` and `pb` their biases, and the sigmoid is written with a hyperbolic tangent. -/
def gatedTanh (zn g p : Fin 256 → EReal) (gb pb : EReal) : EReal :=
  (half * Ideal.tanh (half * (∑ k, g k * zn k + gb)) + half) * (∑ k, p k * zn k + pb)

/-- The same entry as the reference computes it, the sigmoid being a quotient. -/
def gatedLogistic (zn g p : Fin 256 → EReal) (gb pb : EReal) : EReal :=
  Ideal.logistic (∑ k, zn k * g k + gb) * (∑ k, zn k * p k + pb)

/-- The product of two row products, for one channel. -/
def pairProduct (a b c d : Fin 384 → EReal) : EReal := (∑ k, a k * b k) * ∑ k, c k * d k

/-- The mean of a row of 128. -/
def meanC (x : Fin 128 → EReal) : EReal := Ideal.div (∑ k, x k) channels

/-- A row of 128 less its mean, over its standard deviation, at `o`. -/
def normC (x : Fin 128 → EReal) (o : Fin 128) : EReal :=
  (x o - meanC x) * Ideal.rsqrt (Ideal.div (∑ k, (x k - meanC x) * (x k - meanC x)) channels + eps)

/-- One entry of the kernel's result: the second normalisation's scale sits in the weights `w` and its shift in the bias. -/
def outFolded (x w : Fin 128 → EReal) (bias gate : EReal) : EReal :=
  (∑ o, normC x o * w o + bias) * Ideal.logistic gate

/-- One entry of the reference's result: the normalised row is scaled by `s` and shifted by `t` before the projection. -/
def outPlain (x s t w : Fin 128 → EReal) (bias gate : EReal) : EReal :=
  Ideal.logistic gate * (∑ o, (normC x o * s o + t o) * w o + bias)

/-! ## One entry of the result, from the inputs -/

/-- The inputs as functions of plain indices. The four projections are numbered 0 to 3 in the order a, b, c, d. -/
structure Inputs where
  /-- The pair representation. -/
  z : Fin 384 → Fin 384 → Fin 256 → EReal
  /-- The first normalisation's scale. -/
  inScale : Fin 256 → EReal
  /-- The first normalisation's shift. -/
  inShift : Fin 256 → EReal
  /-- The gates' weights. -/
  gateW : Fin 4 → Fin 128 → Fin 256 → EReal
  /-- The gates' biases. -/
  gateB : Fin 4 → Fin 128 → EReal
  /-- The projections' weights. -/
  projW : Fin 4 → Fin 128 → Fin 256 → EReal
  /-- The projections' biases. -/
  projB : Fin 4 → Fin 128 → EReal
  /-- The second normalisation's scale. -/
  outScale : Fin 128 → EReal
  /-- The second normalisation's shift. -/
  outShift : Fin 128 → EReal
  /-- The output gate's weights. -/
  goW : Fin 256 → Fin 256 → EReal
  /-- The output gate's bias. -/
  goB : Fin 256 → EReal
  /-- The last projection's weights. -/
  outW : Fin 256 → Fin 128 → EReal
  /-- The last projection's bias. -/
  outB : Fin 256 → EReal

/-- The inputs from the 25 argument arrays, in the programs' order. -/
def Inputs.ofArrays (a0 : FVec Ideal ⟨4, ![1, 384, 384, 256]⟩ .f32)
    (a1 : FVec Ideal ⟨2, ![128, 256]⟩ .f32) (a2 : FVec Ideal ⟨1, ![128]⟩ .f32)
    (a3 : FVec Ideal ⟨2, ![128, 256]⟩ .f32) (a4 : FVec Ideal ⟨1, ![128]⟩ .f32)
    (a5 : FVec Ideal ⟨2, ![128, 256]⟩ .f32) (a6 : FVec Ideal ⟨1, ![128]⟩ .f32)
    (a7 : FVec Ideal ⟨2, ![128, 256]⟩ .f32) (a8 : FVec Ideal ⟨1, ![128]⟩ .f32)
    (a9 : FVec Ideal ⟨2, ![128, 256]⟩ .f32) (a10 : FVec Ideal ⟨1, ![128]⟩ .f32)
    (a11 : FVec Ideal ⟨2, ![128, 256]⟩ .f32) (a12 : FVec Ideal ⟨1, ![128]⟩ .f32)
    (a13 : FVec Ideal ⟨2, ![128, 256]⟩ .f32) (a14 : FVec Ideal ⟨1, ![128]⟩ .f32)
    (a15 : FVec Ideal ⟨2, ![128, 256]⟩ .f32) (a16 : FVec Ideal ⟨1, ![128]⟩ .f32)
    (a17 a18 : FVec Ideal ⟨1, ![256]⟩ .f32) (a19 a20 : FVec Ideal ⟨1, ![128]⟩ .f32)
    (a21 : FVec Ideal ⟨2, ![256, 256]⟩ .f32) (a22 : FVec Ideal ⟨1, ![256]⟩ .f32)
    (a23 : FVec Ideal ⟨2, ![256, 128]⟩ .f32) (a24 : FVec Ideal ⟨1, ![256]⟩ .f32) : Inputs where
  z i j k := a0 (ix4 0 i j k)
  inScale k := a17 (ix1 k)
  inShift k := a18 (ix1 k)
  gateW q o k := ![a3, a7, a11, a15] q (ix2 o k)
  gateB q o := ![a4, a8, a12, a16] q (ix1 o)
  projW q o k := ![a1, a5, a9, a13] q (ix2 o k)
  projB q o := ![a2, a6, a10, a14] q (ix1 o)
  outScale o := a19 (ix1 o)
  outShift o := a20 (ix1 o)
  goW d k := a21 (ix2 d k)
  goB d := a22 (ix1 d)
  outW d o := a23 (ix2 d o)
  outB d := a24 (ix1 d)

namespace Inputs

variable (I : Inputs)

/-- The normalised row of a pair of positions, the variance taken by `v`. -/
def norm (v : (Fin 256 → EReal) → EReal) (i j : Fin 384) : Fin 256 → EReal :=
  normWith (v (I.z i j)) (I.z i j) I.inScale I.inShift

/-- Entry `o` of gated projection `q` of a pair of positions, as the kernel computes it. -/
def kernelGated (q : Fin 4) (o : Fin 128) (i j : Fin 384) : EReal :=
  gatedTanh (I.norm varSquares i j) (I.gateW q o) (I.projW q o) (I.gateB q o) (I.projB q o)

/-- The same entry as the reference computes it. -/
def referenceGated (q : Fin 4) (o : Fin 128) (i j : Fin 384) : EReal :=
  gatedLogistic (I.norm varCentred i j) (I.gateW q o) (I.projW q o) (I.gateB q o) (I.projB q o)

/-- The product of the two row products, as the kernel computes it. -/
def kernelProduct (i j : Fin 384) (o : Fin 128) : EReal :=
  pairProduct (I.kernelGated 0 o i) (I.kernelGated 1 o j) (I.kernelGated 2 o i) (I.kernelGated 3 o j)

/-- The same product as the reference computes it, the factors of each row product the other way round. -/
def referenceProduct (i j : Fin 384) (o : Fin 128) : EReal :=
  pairProduct (I.referenceGated 1 o j) (I.referenceGated 0 o i) (I.referenceGated 3 o j) (I.referenceGated 2 o i)

/-- One entry of the kernel's result. -/
def kernelEntry (i j : Fin 384) (d : Fin 256) : EReal :=
  outFolded (I.kernelProduct i j) (fun o => I.outW d o * I.outScale o) (I.outB d + ∑ o, I.outShift o * I.outW d o)
    (∑ k, I.norm varSquares i j k * I.goW d k + I.goB d)

/-- One entry of the reference's result. -/
def referenceEntry (i j : Fin 384) (d : Fin 256) : EReal :=
  outPlain (I.referenceProduct i j) I.outScale I.outShift (I.outW d) (I.outB d)
    (∑ k, I.norm varCentred i j k * I.goW d k + I.goB d)

end Inputs

end Cert.Spec

end
-- ==== Proof.Equation.lean ====
/- The equation between the two programs' entries. Three steps change the formula: the variance (mean of the squares less
   the square of the mean, against the mean of the squared distances), the sigmoid (by a hyperbolic tangent, against a
   quotient), and the second normalisation's scale and shift (folded into the last projection, or applied before it). -/
module

public import proofs.«01_k».proof.Proof.Spec

@[expose] public section

noncomputable section

namespace Cert.Spec

open Idealize.ShloMosaic

/-! ## The three literals -/

theorem half_eq : half = ((1 / 2 : ℝ) : EReal) := by
  simp [half, Ideal.ofBits, Ideal.ieee]
  rw [← EReal.coe_mul]
  norm_num

theorem width_eq : width = ((256 : ℝ) : EReal) := by
  simp [width, Ideal.ofBits, Ideal.ieee]
  rw [← EReal.coe_mul]
  norm_num

theorem channels_eq : channels = ((128 : ℝ) : EReal) := by
  simp [channels, Ideal.ofBits, Ideal.ieee]
  rw [← EReal.coe_mul]
  norm_num

/-! ## The sigmoid -/

/-- Half the hyperbolic tangent of half the argument, plus a half, is the logistic function, at the infinities too. -/
theorem sigmoid_eq (x : EReal) : half * Ideal.tanh (half * x) + half = Ideal.logistic x := by
  rw [half_eq]
  induction x with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top]
    norm_cast; norm_num
  | coe r =>
    rw [← EReal.coe_mul, Ideal.tanh_coe, Ideal.logistic_coe]
    norm_cast
    have hp : Real.exp (-(1 / 2 * r)) * Real.exp (1 / 2 * r) = 1 := by rw [← Real.exp_add]; simp
    have he : Real.exp (-r) = Real.exp (-(1 / 2 * r)) * Real.exp (-(1 / 2 * r)) := by rw [← Real.exp_add]; congr 1; ring
    have h1 := Real.exp_pos (-(1 / 2 * r))
    have h2 := Real.exp_pos (1 / 2 * r)
    rw [Real.tanh_eq, he]
    generalize Real.exp (-(1 / 2 * r)) = u at *
    generalize Real.exp (1 / 2 * r) = v at *
    have h3 : v + u ≠ 0 := by positivity
    have h4 : 1 + u * u ≠ 0 := by positivity
    field_simp
    linear_combination (2 * u) * hp

/-- The two forms of a gated projection agree. -/
theorem gated_eq (zn g p : Fin 256 → EReal) (gb pb : EReal) : gatedTanh zn g p gb pb = gatedLogistic zn g p gb pb := by
  unfold gatedTanh gatedLogistic
  rw [sigmoid_eq]
  simp only [mul_comm]

/-! ## The variance -/

/-- On a row of real numbers the two forms of the variance agree. -/
theorem var_eq (x : Fin 256 → EReal) (hx : ∀ k, ∃ r : ℝ, x k = r) : varSquares x = varCentred x := by
  choose y hy using hx
  obtain rfl : x = fun k => (y k : EReal) := funext hy
  have hs (f : Fin 256 → ℝ) : ∑ k, (f k : EReal) = ((∑ k, f k : ℝ) : EReal) :=
    (map_sum (⟨⟨Real.toEReal, EReal.coe_zero⟩, EReal.coe_add⟩ : ℝ →+ EReal) f Finset.univ).symm
  have hm : mean (fun k => (y k : EReal)) = (((∑ k, y k) * (1 / 256) : ℝ) : EReal) := by
    unfold mean
    rw [width_eq, Ideal.div_coe (by norm_num), hs]
    norm_cast
  unfold varSquares varCentred
  rw [hm, width_eq, Ideal.div_coe (by norm_num), Ideal.div_coe (by norm_num)]
  simp only [← EReal.coe_mul, ← EReal.coe_sub, hs]
  norm_cast
  have e (a : ℝ) : ∑ k, (y k - a) * (y k - a) = ∑ k, y k * y k - 2 * a * ∑ k, y k + 256 * (a * a) := by
    simp only [sub_mul, mul_sub, Finset.sum_sub_distrib, ← Finset.mul_sum, ← Finset.sum_mul, Finset.sum_const, Finset.card_univ,
      Fintype.card_fin, nsmul_eq_mul]
    push_cast
    ring
  rw [e]
  ring

/-! ## The last projection -/

/-- Multiplication by a real number distributes over a sum whose second term is real. -/
theorem add_mul_coe (a : EReal) (b w : ℝ) : (a + b) * (w : EReal) = a * w + b * w := by
  induction a with
  | coe r => norm_cast; ring
  | bot =>
    rw [EReal.bot_add]
    rcases lt_trichotomy w 0 with h | rfl | h
    · rw [EReal.bot_mul_coe_of_neg h, ← EReal.coe_mul, EReal.top_add_coe]
    · simp
    · rw [EReal.bot_mul_coe_of_pos h, EReal.bot_add]
  | top =>
    rw [EReal.top_add_coe]
    rcases lt_trichotomy w 0 with h | rfl | h
    · rw [EReal.top_mul_coe_of_neg h, EReal.bot_add]
    · simp
    · rw [EReal.top_mul_coe_of_pos h, ← EReal.coe_mul, EReal.top_add_coe]

/-- Folding the second normalisation's scale and shift into the last projection changes nothing where the shift and the
    projection's weights are real. -/
theorem out_eq (x s t w : Fin 128 → EReal) (bias gate : EReal) (ht : ∀ o, ∃ r : ℝ, t o = r) (hw : ∀ o, ∃ r : ℝ, w o = r) :
    outFolded x (fun o => w o * s o) (bias + ∑ o, t o * w o) gate = outPlain x s t w bias gate := by
  choose t' ht using ht
  choose w' hw using hw
  have e (o : Fin 128) : (normC x o * s o + t o) * w o = normC x o * (w o * s o) + t o * w o := by
    rw [ht, hw, add_mul_coe, mul_assoc, mul_comm (s o)]
  unfold outFolded outPlain
  simp only [e, Finset.sum_add_distrib]
  rw [mul_comm, add_assoc, add_comm bias]

/-! ## The entries -/

/-- The kernel's entry is the reference's where the input, the last projection's weights and the second normalisation's
    shift are real. -/
theorem entry_eq (I : Inputs) (hz : ∀ i j k, ∃ r : ℝ, I.z i j k = r) (ht : ∀ o, ∃ r : ℝ, I.outShift o = r)
    (hw : ∀ d o, ∃ r : ℝ, I.outW d o = r) (i j : Fin 384) (d : Fin 256) : I.kernelEntry i j d = I.referenceEntry i j d := by
  have hn : I.norm varSquares = I.norm varCentred := by
    funext i j
    unfold Inputs.norm
    rw [var_eq _ (hz i j)]
  have hg : I.kernelGated = I.referenceGated := by
    funext q o i j
    unfold Inputs.kernelGated Inputs.referenceGated
    rw [hn, gated_eq]
  have hp : I.kernelProduct i j = I.referenceProduct i j := by
    funext o
    unfold Inputs.kernelProduct Inputs.referenceProduct pairProduct
    rw [hg]
    simp only [mul_comm]
  unfold Inputs.kernelEntry Inputs.referenceEntry
  rw [hn, hp]
  exact out_eq _ _ _ _ _ _ ht (hw d)

end Cert.Spec

end
-- ==== Proof.Launch.lean ====
/- The kernel's run: it ends, with every buffer at the last boundary's contents. The set-up is the frame's own, kept open
   at every buffer where the frame reads the arguments only. -/
module

public import proofs.«01_k».proof.Proof.Gen.KernelIdeal.Frame

@[expose] public section

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, every buffer outside the launches' own at what the last host operations leave. -/
theorem run : θ_run defs (onTc (τ := τ) (main (F := F))) ⟨m, fun _ => 0, ρ⟩
    (fun r => ∀ (c : Dev nD), ∀ b ∈ Pipeline.ucRefs τ sig, r.2.mem (((c : Thread nD τ)).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.KernelIdeal.Result

end
-- ==== Proof.Blocks.lean ====
/- What one grid point of each of the three kernels computes, entry by entry, from the blocks it loads. -/
module

public import proofs.«01_k».proof.Proof.Gen.KernelIdeal.Skeleton
public import proofs.«01_k».proof.Proof.Spec
public import Idealize.ShloMosaic.Lib.Pipeline.Value

@[expose] public section

set_option maxRecDepth 16384

noncomputable section

namespace Cert.KernelIdeal.Blocks

open Idealize.ShloMosaic Idealize.ShloMosaic.TcCoe Idealize.SL.Sem
open Cert.KernelIdeal Cert.KernelIdeal.Gen
open Cert.Spec

/-! ## The first kernel: normalise 2048 positions, then project them -/

/-- The normalised row of one position of the block. -/
abbrev znRow (z : FVec Ideal S2048x256 .f32) (w b : FVec Ideal S1x256 .f32) (n : Fin 2048) : Fin 256 → EReal :=
  normWith (varSquares fun k => z (ix2 n k)) (fun k => z (ix2 n k)) (fun k => w (ix2 0 k)) fun k => b (ix2 0 k)

/-- The normalisation, at a position and a feature. -/
theorem norm_at (z : FVec Ideal S2048x256 .f32) (w b : FVec Ideal S1x256 .f32) (n : Fin 2048) (d : Fin 256) :
    k0_pay3 (F := Ideal) z w b (ix2 n d) = znRow z w b n d := by
  pointwise [k0_pay3, znRow, normWith, varSquares, mean]

/-- The output gate's product, at a position and a feature. -/
theorem gate_at (z : FVec Ideal S2048x256 .f32) (w b : FVec Ideal S1x256 .f32) (g : FVec Ideal S256x256 .bf16)
    (n : Fin 2048) (d : Fin 256) :
    k0_pay2 (F := Ideal) (k0_pay3 z w b) g (ix2 n d) = ∑ k : Fin 256, znRow z w b n k * g (ix2 k d) := by
  pointwise [k0_pay2]
  exact Finset.sum_congr rfl fun k _ => by rw [norm_at]

/-- All 1024 weight rows against the normalised rows. -/
theorem rows_at (z : FVec Ideal S2048x256 .f32) (w b : FVec Ideal S1x256 .f32) (wc : FVec Ideal S1024x256 .bf16)
    (r : Fin 1024) (n : Fin 2048) :
    k0_pay4 (F := Ideal) z w b wc (ix2 r n) = ∑ k : Fin 256, wc (ix2 r k) * znRow z w b n k := by
  pointwise [k0_pay4]
  exact Finset.sum_congr rfl fun k _ => by rw [norm_at]

/-- A bias tile of 128 lanes laid sixteen times side by side. -/
theorem tile_at (t : FVec Ideal S512x128 .f32) (r : Fin 512) (n : Fin 2048) :
    k0_pay5 (F := Ideal) t (ix2 r n) = t (ix2 r ⟨n.val % 128, Nat.mod_lt _ (by decide)⟩) := by
  have e : shapeCast S512x128 t shapeCasts_S512x128_S512x128 = t := by funext j; pointwise
  unfold k0_pay5
  rw [e]
  refine concatenate_replicate_apply (1 : Fin S512x2048.rank) 16 t
    concatenates_S512x128_S512x128_S512x128_S512x128_S512x128_S512x128_S512x128_S512x128_S512x128_S512x128_S512x128_S512x128_S512x128_S512x128_S512x128_S512x128_S512x2048_d1
    rfl _ _ rfl (fun b hb => ?_)
  fin_cases b
  · rfl
  · exact absurd rfl hb

/-- The gate's argument: the first 512 weight rows' products and the gate's bias. -/
theorem gateArg_at (z : FVec Ideal S2048x256 .f32) (w b : FVec Ideal S1x256 .f32) (wc : FVec Ideal S1024x256 .bf16)
    (t : FVec Ideal S512x128 .f32) (r : Fin 512) (n : Fin 2048) :
    k0_pay6 (F := Ideal) z w b wc t (ix2 r n)
      = ∑ k : Fin 256, wc (ix2 ⟨r.val, by omega⟩ k) * znRow z w b n k + t (ix2 r ⟨n.val % 128, Nat.mod_lt _ (by decide)⟩) := by
  show addf (extractStridedSlice S512x2048 ![0, 0] (k0_pay4 (F := Ideal) z w b wc) slices_S1024x2048_o0_0_S512x2048)
    (k0_pay5 (F := Ideal) t) (ix2 r n) = _
  pointwise
  rw [rows_at, tile_at]

/-- One entry of the four gated projections: channel `r`, position `n`. -/
theorem gated_at (z : FVec Ideal S2048x256 .f32) (w b : FVec Ideal S1x256 .f32) (wc : FVec Ideal S1024x256 .bf16)
    (gt pt : FVec Ideal S512x128 .f32) (r : Fin 512) (n : Fin 2048) :
    k0_pay1 (F := Ideal) (k0_pay4 z w b wc) (k0_pay5 pt) (k0_pay6 z w b wc gt) (Scalar.ofBits .f32 0x3F000000#32) (ix2 r n)
      = gatedTanh (znRow z w b n) (fun k => wc (ix2 ⟨r.val, by omega⟩ k)) (fun k => wc (ix2 ⟨512 + r.val, by omega⟩ k))
          (gt (ix2 r ⟨n.val % 128, Nat.mod_lt _ (by decide)⟩)) (pt (ix2 r ⟨n.val % 128, Nat.mod_lt _ (by decide)⟩)) := by
  pointwise [k0_pay1]
  rw [rows_at, tile_at, gateArg_at]
  rfl

/-! ## The second kernel: for each of 16 channels the product of two products of 384 by 384 matrices -/

/-- One channel's product, at a pair of positions. -/
theorem pair_at (x0 x1 x2 x3 : FVec Ideal S1x384x384 .bf16) (u : Fin 1) (i j : Fin 384) :
    k1_pay3 (F := Ideal) x0 x1 x2 x3 (ix3 u i j)
      = pairProduct (fun k => x0 (ix3 0 i k)) (fun k => x1 (ix3 0 j k)) (fun k => x2 (ix3 0 i k)) fun k => x3 (ix3 0 j k) := by
  pointwise [k1_pay3, pairProduct]

/-! ## The third kernel: normalise the channels of 16384 pairs, project and gate them -/

/-- One entry of the result block. -/
theorem out_at (x0 : FVec Ideal S128x16384 .bf16) (x1 : FVec Ideal S128x256 .bf16) (x2 : FVec Ideal S16384x256 .bf16)
    (x3 x4 : FVec Ideal S1x256 .f32) (n : Fin 16384) (d : Fin 256) :
    k2_pay1 (F := Ideal) x0 x1 x2 x3 x4 (ix2 n d)
      = outFolded (fun o => x0 (ix2 o n)) (fun o => x1 (ix2 o d)) (x4 (ix2 0 d)) (x2 (ix2 n d) + x3 (ix2 0 d)) := by
  pointwise [k2_pay1, outFolded, normC, meanC]

end Cert.KernelIdeal.Blocks

end
-- ==== Proof.ArrayProjection.lean ====
/- What the two arrays of the first kernel hold when its 72 grid points are done: each grid point writes the columns (of
   the projections) and the rows (of the output gate) that belong to its 2048 positions. -/
module

public import proofs.«01_k».proof.Proof.Gen.KernelIdeal.Frame
public import proofs.«01_k».proof.Proof.Blocks
public import Idealize.ShloMosaic.Lib.Pipeline.ValueKit

@[expose] public section

set_option maxRecDepth 16384

noncomputable section

namespace Cert.KernelIdeal.ArrayProjection

open Idealize.ShloMosaic Idealize.ShloMosaic.TcCoe Idealize.SL.Sem
open Cert.KernelIdeal Cert.KernelIdeal.Gen Cert.KernelIdeal.Blocks
open Cert.Spec

/-- The normalised row of position `n`, from the flat input and the first normalisation's scale and shift. -/
abbrev zn (z : FVec Ideal S147456x256 .f32) (w b : FVec Ideal S1x256 .f32) (n : Fin 147456) : Fin 256 → EReal :=
  normWith (varSquares fun k => z (ix2 n k)) (fun k => z (ix2 n k)) (fun k => w (ix2 0 k)) fun k => b (ix2 0 k)

/-- The four gated projections, 512 channels by 147456 positions. -/
def gated (z : FVec Ideal S147456x256 .f32) (w b : FVec Ideal S1x256 .f32) (wc : FVec Ideal S1024x256 .bf16)
    (gt pt : FVec Ideal S512x128 .f32) : FVec Ideal S512x147456 .bf16 := fun j =>
  gatedTanh (zn z w b (j 1)) (fun k => wc (ix2 (n0 := 1024) ⟨(j 0).val, lt_of_lt_of_le (j 0).isLt (by decide)⟩ k))
    (fun k => wc (ix2 (n0 := 1024) ⟨512 + (j 0).val, Nat.add_lt_add_left (j 0).isLt 512⟩ k))
    (gt (ix2 (j 0) ⟨(j 1).val % 128, Nat.mod_lt _ (by decide)⟩)) (pt (ix2 (j 0) ⟨(j 1).val % 128, Nat.mod_lt _ (by decide)⟩))

/-- The output gate before its bias, 147456 positions by 256 features. -/
def gate (z : FVec Ideal S147456x256 .f32) (w b : FVec Ideal S1x256 .f32) (g : FVec Ideal S256x256 .bf16) :
    FVec Ideal S147456x256 .bf16 := fun j => ∑ k : Fin 256, zn z w b (j 0) k * g (ix2 k (j 1))

/-- The block of each window at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, t.val] ∧ win0_9.index t = ![t.val, 0] :=
  (by decide +kernel : ∀ t : Fin grid0.N, _)

variable (V : (c : Dev nD) → (b : Ref sig .tc) → Buf (Elt Ideal) ((c : Thread nD τ).loc b))

/-- A loaded input block holds the rows of its 2048 positions. -/
theorem rows_of (c : Dev nD) (t : Fin cfg0.N) (n : Fin 2048) (k : Fin 256) :
    iblk0 V c 0 t (ix2 n k)
      = V c main_v0 (ix2 (n0 := 147456) ⟨t.val * 2048 + n.val, by have : t.val < 72 := t.isLt; omega⟩ k) := by
  blk_ext [iblk0, idx t]

/-- The stacked projection weights are one block. -/
theorem weights_of (c : Dev nD) (t : Fin cfg0.N) : iblk0 V c 1 t = V c main_v2 := by
  funext x; blk_ext [iblk0, idx t]
/-- So are the output gate's weights, -/
theorem gateWeights_of (c : Dev nD) (t : Fin cfg0.N) : iblk0 V c 2 t = V c main_v4 := by
  funext x; blk_ext [iblk0, idx t]
/-- the tile of the gates' biases, -/
theorem gateTile_of (c : Dev nD) (t : Fin cfg0.N) : iblk0 V c 3 t = V c main_v8 := by
  funext x; blk_ext [iblk0, idx t]
/-- the tile of the projections' biases, -/
theorem projTile_of (c : Dev nD) (t : Fin cfg0.N) : iblk0 V c 4 t = V c main_v10 := by
  funext x; blk_ext [iblk0, idx t]
/-- the first normalisation's scale -/
theorem scale_of (c : Dev nD) (t : Fin cfg0.N) : iblk0 V c 6 t = V c main_v12 := by
  funext x; blk_ext [iblk0, idx t]
/-- and its shift. -/
theorem shift_of (c : Dev nD) (t : Fin cfg0.N) : iblk0 V c 7 t = V c main_v13 := by
  funext x; blk_ext [iblk0, idx t]

/-- The gated projections' array after the launch. -/
theorem final_gated (c : Dev nD) : (dat0 V c).arrAt 8 cfg0.N
    = gated (V c main_v0) (V c main_v12) (V c main_v13) (V c main_v2) (V c main_v8) (V c main_v10) := by
  refine (dat0 V c).arrAt_eq_of_covers 8 _ (by decide +kernel) fun t _ y => ?_
  blk_simp
  rw [after0_8]; frame_out
  obtain ⟨r, n, rfl⟩ : ∃ (r : Fin 512) (n : Fin 2048), y = ix2 r n := ⟨y 0, y 1, eq_ix2 y⟩
  have ht : t.val < 72 := t.isLt
  have e : ((View.whole main_v14_0).slice (win0_8.rect t)).emb (ix2 r n)
      = ix2 r (⟨t.val * 2048 + n.val, by omega⟩ : Fin 147456) := by blk_ext [idx t]
  have hn : (⟨n.val % 128, Nat.mod_lt _ (by decide)⟩ : Fin 128)
      = ⟨(t.val * 2048 + n.val) % 128, Nat.mod_lt _ (by decide)⟩ := Fin.ext (by show _ % _ = _ % _; omega)
  rw [e, weights_of, gateTile_of, projTile_of, scale_of, shift_of, gated_at, hn]
  simp only [znRow, rows_of]
  rfl

/-- The output gate's array after the launch. -/
theorem final_gate (c : Dev nD) : (dat0 V c).arrAt 9 cfg0.N
    = gate (V c main_v0) (V c main_v12) (V c main_v13) (V c main_v4) := by
  refine (dat0 V c).arrAt_eq_of_covers 9 _ (by decide +kernel) fun t _ y => ?_
  blk_simp
  rw [after0_9]; frame_out
  obtain ⟨n, d, rfl⟩ : ∃ (n : Fin 2048) (d : Fin 256), y = ix2 n d := ⟨y 0, y 1, eq_ix2 y⟩
  have ht : t.val < 72 := t.isLt
  have e : ((View.whole main_v14_1).slice (win0_9.rect t)).emb (ix2 n d)
      = ix2 (⟨t.val * 2048 + n.val, by omega⟩ : Fin 147456) d := by blk_ext [idx t]
  rw [e, gateWeights_of, scale_of, shift_of, gate_at]
  simp only [znRow, rows_of]
  rfl

end Cert.KernelIdeal.ArrayProjection

end
-- ==== Proof.ArrayPairs.lean ====
/- What the array of the second kernel holds when its 8 grid points are done: each grid point writes 16 of the 128 channels,
   one channel per store. -/
module

public import proofs.«01_k».proof.Proof.Gen.KernelIdeal.Frame
public import proofs.«01_k».proof.Proof.Blocks
public import Idealize.ShloMosaic.Lib.Pipeline.ValueKit

@[expose] public section

set_option maxRecDepth 16384

noncomputable section

namespace Cert.KernelIdeal.ArrayPairs

open Idealize.ShloMosaic Idealize.ShloMosaic.TcCoe Idealize.SL.Sem
open Cert.KernelIdeal Cert.KernelIdeal.Gen Cert.KernelIdeal.Blocks
open Cert.Spec

/-- The product of the two row products, 128 channels by 384 by 384 positions. The four groups of 128 channels of `a` are
    the four gated projections. -/
def pairs (a : FVec Ideal S512x384x384 .bf16) : FVec Ideal S128x384x384 .bf16 := fun j =>
  pairProduct (fun k => a (ix3 (n0 := 512) ⟨(j 0).val, lt_of_lt_of_le (j 0).isLt (by decide)⟩ (j 1) k))
    (fun k => a (ix3 (n0 := 512) ⟨128 + (j 0).val, lt_of_lt_of_le (Nat.add_lt_add_left (j 0).isLt 128) (by decide)⟩ (j 2) k))
    (fun k => a (ix3 (n0 := 512) ⟨256 + (j 0).val, lt_of_lt_of_le (Nat.add_lt_add_left (j 0).isLt 256) (by decide)⟩ (j 1) k))
    (fun k => a (ix3 (n0 := 512) ⟨384 + (j 0).val, lt_of_lt_of_le (Nat.add_lt_add_left (j 0).isLt 384) (by decide)⟩ (j 2) k))

/-- The block of each window at each grid point. -/
theorem idx : ∀ t : Fin cfg1.N, win1_0.index t = ![t.val, 0, 0] ∧ win1_1.index t = ![t.val + 8, 0, 0]
    ∧ win1_2.index t = ![t.val + 16, 0, 0] ∧ win1_3.index t = ![t.val + 24, 0, 0] ∧ win1_4.index t = ![t.val, 0, 0] :=
  (by decide +kernel : ∀ t : Fin grid1.N, _)

variable (V : (c : Dev nD) → (b : Ref sig .tc) → Buf (Elt Ideal) ((c : Thread nD τ).loc b))

/-- The first window's block holds 16 channels of the first group. -/
theorem first_of (c : Dev nD) (t : Fin cfg1.N) (u : Fin 16) (i k : Fin 384) : iblk1 V c 0 t (ix3 u i k)
    = V c main_v15 (ix3 (n0 := 512) ⟨t.val * 16 + u.val, by have : t.val < 8 := t.isLt; omega⟩ i k) := by
  blk_ext [iblk1, idx t]
/-- The second window's block holds 16 channels of the second group. -/
theorem second_of (c : Dev nD) (t : Fin cfg1.N) (u : Fin 16) (i k : Fin 384) : iblk1 V c 1 t (ix3 u i k)
    = V c main_v15 (ix3 (n0 := 512) ⟨128 + (t.val * 16 + u.val), by have : t.val < 8 := t.isLt; omega⟩ i k) := by
  blk_ext [iblk1, idx t]
/-- The third window's block holds 16 channels of the third group. -/
theorem third_of (c : Dev nD) (t : Fin cfg1.N) (u : Fin 16) (i k : Fin 384) : iblk1 V c 2 t (ix3 u i k)
    = V c main_v15 (ix3 (n0 := 512) ⟨256 + (t.val * 16 + u.val), by have : t.val < 8 := t.isLt; omega⟩ i k) := by
  blk_ext [iblk1, idx t]
/-- The fourth window's block holds 16 channels of the fourth group. -/
theorem fourth_of (c : Dev nD) (t : Fin cfg1.N) (u : Fin 16) (i k : Fin 384) : iblk1 V c 3 t (ix3 u i k)
    = V c main_v15 (ix3 (n0 := 512) ⟨384 + (t.val * 16 + u.val), by have : t.val < 8 := t.isLt; omega⟩ i k) := by
  blk_ext [iblk1, idx t]

/-- A load of channel `u` of a block. -/
theorem load_at (B : Vec Ideal S16x384x384 .bf16) (o : Nat)
    (inb : ∀ a, (![o, 0, 0] : Fin 3 → Nat) a + S1x384x384.size a ≤ S16x384x384.size a) (u : Fin 16) (hu : u.val = o + 0) (i k : Fin 384) :
    View.ld B (Rect.unit (s := S16x384x384) ![o, 0, 0] S1x384x384.size inb)
      (ix3 (n0 := 1) (n1 := 384) (n2 := 384) 0 i k) = B (ix3 u i k) := by
  refine congrArg B (funext fun a => Fin.ext ?_)
  fin_cases a
  · exact (Rect.idx_unit_val ..).trans hu.symm
  · exact (Rect.idx_unit_val ..).trans (Nat.zero_add _)
  · exact (Rect.idx_unit_val ..).trans (Nat.zero_add _)

/-- One stored channel, at an index `x` of the store: the four loaded channels `A B C D` are channel `u` of the blocks. -/
theorem piece_at (c : Dev nD) (t : Fin cfg1.N) (ht : t.val < 8) (u : Fin 16) (i j : Fin 384)
    {P A B C D : FVec Ideal S1x384x384 .bf16} (x : S1x384x384.Idx) (hP : P = k1_pay3 (F := Ideal) A B C D)
    (hi : i.val = (x 1).val) (hj : j.val = (x 2).val)
    (hA : ∀ k : Fin 384, A (ix3 0 i k) = iblk1 V c 0 t (ix3 u i k)) (hB : ∀ k : Fin 384, B (ix3 0 j k) = iblk1 V c 1 t (ix3 u j k))
    (hC : ∀ k : Fin 384, C (ix3 0 i k) = iblk1 V c 2 t (ix3 u i k)) (hD : ∀ k : Fin 384, D (ix3 0 j k) = iblk1 V c 3 t (ix3 u j k)) :
    P x = pairs (V c main_v15) (ix3 (⟨t.val * 16 + u.val, by omega⟩ : Fin 128) i j) := by
  obtain ⟨v, i', j', rfl⟩ : ∃ (v : Fin 1) (i' j' : Fin 384), x = ix3 v i' j' := ⟨x 0, x 1, x 2, eq_ix3 x⟩
  obtain rfl : i = i' := Fin.ext hi
  obtain rfl : j = j' := Fin.ext hj
  rw [hP, pair_at]
  simp only [hA, hB, hC, hD, first_of, second_of, third_of, fourth_of]
  rfl

/-- The array of products after the launch. -/
theorem final_pairs (c : Dev nD) : (dat1 V c).arrAt 4 cfg1.N = pairs (V c main_v15) := by
  refine (dat1 V c).arrAt_eq_of_covers 4 _ (by decide +kernel) fun t _ y => ?_
  blk_simp
  rw [after1_4]
  obtain ⟨u, i, j, rfl⟩ : ∃ (u : Fin 16) (i j : Fin 384), y = ix3 u i j := ⟨y 0, y 1, y 2, eq_ix3 y⟩
  have ht : t.val < 8 := t.isLt
  have e : ((View.whole main_v16).slice (win1_4.rect t)).emb (ix3 u i j)
      = ix3 (⟨t.val * 16 + u.val, by omega⟩ : Fin 128) i j := by blk_ext [idx t]
  rw [e]
  canon_tiles x h
  all_goals
    refine piece_at V c t ht u i j x rfl h1 h2 (fun k => load_at _ _ _ u ?_ i k) (fun k => load_at _ _ _ u ?_ j k)
      (fun k => load_at _ _ _ u ?_ i k) (fun k => load_at _ _ _ u ?_ j k) <;>
    first
    | exact h0.trans (congrArg _ (Nat.lt_one_iff.mp x0_lt))
    | exact h0.trans (Nat.lt_one_iff.mp x0_lt)

end Cert.KernelIdeal.ArrayPairs

end
-- ==== Proof.ArrayOutput.lean ====
/- What the result's array holds when the 9 grid points of the third kernel are done: each grid point writes the rows of its
   16384 pairs of positions. -/
module

public import proofs.«01_k».proof.Proof.Gen.KernelIdeal.Frame
public import proofs.«01_k».proof.Proof.Blocks
public import Idealize.ShloMosaic.Lib.Pipeline.ValueKit

@[expose] public section

set_option maxRecDepth 16384

noncomputable section

namespace Cert.KernelIdeal.ArrayOutput

open Idealize.ShloMosaic Idealize.ShloMosaic.TcCoe Idealize.SL.Sem
open Cert.KernelIdeal Cert.KernelIdeal.Gen Cert.KernelIdeal.Blocks
open Cert.Spec

/-- The kernel's flat result, 147456 pairs of positions by 256 features. -/
def output (kt : FVec Ideal S128x147456 .bf16) (g : FVec Ideal S147456x256 .bf16) (w : FVec Ideal S128x256 .bf16)
    (bias gbias : FVec Ideal S1x256 .f32) : FVec Ideal S147456x256 .f32 := fun j =>
  outFolded (fun o => kt (ix2 o (j 0))) (fun o => w (ix2 o (j 1))) (bias (ix2 0 (j 1)))
    (g (ix2 (j 0) (j 1)) + gbias (ix2 0 (j 1)))

/-- The block of each window at each grid point. -/
theorem idx : ∀ t : Fin cfg2.N, win2_0.index t = ![0, t.val] ∧ win2_1.index t = ![t.val, 0] ∧ win2_2.index t = ![0, 0]
    ∧ win2_3.index t = ![0, 0] ∧ win2_4.index t = ![0, 0] ∧ win2_5.index t = ![t.val, 0] :=
  (by decide +kernel : ∀ t : Fin grid2.N, _)

variable (V : (c : Dev nD) → (b : Ref sig .tc) → Buf (Elt Ideal) ((c : Thread nD τ).loc b))

/-- The products' block holds the columns of its 16384 pairs. -/
theorem columns_of (c : Dev nD) (t : Fin cfg2.N) (o : Fin 128) (n : Fin 16384) : iblk2 V c 0 t (ix2 o n)
    = V c main_v26 (ix2 (n1 := 147456) o ⟨t.val * 16384 + n.val, by have : t.val < 9 := t.isLt; omega⟩) := by
  blk_ext [iblk2, idx t]
/-- The gate's block holds their rows. -/
theorem gateRows_of (c : Dev nD) (t : Fin cfg2.N) (n : Fin 16384) (d : Fin 256) : iblk2 V c 1 t (ix2 n d)
    = V c main_v14_1 (ix2 (n0 := 147456) ⟨t.val * 16384 + n.val, by have : t.val < 9 := t.isLt; omega⟩ d) := by
  blk_ext [iblk2, idx t]
/-- The weights are one block, -/
theorem weights_of (c : Dev nD) (t : Fin cfg2.N) : iblk2 V c 2 t = V c main_v21 := by
  funext x; blk_ext [iblk2, idx t]
/-- so is the bias -/
theorem bias_of (c : Dev nD) (t : Fin cfg2.N) : iblk2 V c 3 t = V c main_v25 := by
  funext x; blk_ext [iblk2, idx t]
/-- and the gate's bias. -/
theorem gateBias_of (c : Dev nD) (t : Fin cfg2.N) : iblk2 V c 4 t = V c main_v11 := by
  funext x; blk_ext [iblk2, idx t]

/-- The flat result after the launch. -/
theorem final_output (c : Dev nD) : (dat2 V c).arrAt 5 cfg2.N
    = output (V c main_v26) (V c main_v14_1) (V c main_v21) (V c main_v25) (V c main_v11) := by
  refine (dat2 V c).arrAt_eq_of_covers 5 _ (by decide +kernel) fun t _ y => ?_
  blk_simp
  rw [after2_5]; frame_out
  obtain ⟨n, d, rfl⟩ : ∃ (n : Fin 16384) (d : Fin 256), y = ix2 n d := ⟨y 0, y 1, eq_ix2 y⟩
  have ht : t.val < 9 := t.isLt
  have e : ((View.whole main_v27).slice (win2_5.rect t)).emb (ix2 n d)
      = ix2 (⟨t.val * 16384 + n.val, by omega⟩ : Fin 147456) d := by blk_ext [idx t]
  rw [e, weights_of, bias_of, gateBias_of, out_at, gateRows_of]
  simp only [columns_of]
  rfl

end Cert.KernelIdeal.ArrayOutput

end
-- ==== Proof.Host.lean ====
/- What the host's operations between the kernels' launches leave in the arrays the launches read, entry by entry. -/
module

public import proofs.«01_k».proof.Proof.Gen.KernelIdeal.Frame
public import proofs.«01_k».proof.Proof.Spec
public import Idealize.ShloMosaic.Lib.Claim

@[expose] public section

set_option maxRecDepth 16384

noncomputable section

namespace Cert.KernelIdeal.Host

open Idealize.ShloMosaic Idealize.ShloMosaic.TcCoe Idealize.SL.Sem
open Cert.KernelIdeal Cert.KernelIdeal.Gen
open Cert.Spec

variable (σ : Valuation τ sig (Elt Ideal))

/-- The flat input: position `(i, j)` is row `384 i + j`. -/
theorem flat_at (i j : Fin 384) (k : Fin 256) :
    StableHlo.after hostOps0 σ (Proc.devRef .tc main_v0) (ix2 (n0 := 147456) ⟨i.val * 384 + j.val, by omega⟩ k)
      = σ (Proc.devRef .tc main_arg0) (ix4 0 i j k) := by
  after_results
  pointwise

/-- Eight arrays of 128 rows stacked: row `128 q + o` is row `o` of array `q`. -/
theorem stack_rows (f : Fin 8 → FVec Ideal S128x256 .f32) (q : Fin 8) (r : Fin 1024) (o : Fin 128) (hr : r.val = 128 * q.val + o.val)
    (k : Fin 256) :
    concatenate S1024x256 0 [⟨S128x256, f 0⟩, ⟨S128x256, f 1⟩, ⟨S128x256, f 2⟩, ⟨S128x256, f 3⟩, ⟨S128x256, f 4⟩, ⟨S128x256, f 5⟩,
        ⟨S128x256, f 6⟩, ⟨S128x256, f 7⟩]
      concatenates_S128x256_S128x256_S128x256_S128x256_S128x256_S128x256_S128x256_S128x256_S1024x256_d0 (ix2 r k)
      = f q (ix2 o k) := by
  refine concatenate_ofFn_apply (0 : Fin S1024x256.rank) f
    concatenates_S128x256_S128x256_S128x256_S128x256_S128x256_S128x256_S128x256_S128x256_S1024x256_d0 rfl 128 rfl (ix2 r k) q
    (show r.val / 128 = q.val by omega) (ix2 o k) (show o.val = r.val % 128 by omega) (fun b hb => ?_)
  fin_cases b
  · exact absurd rfl hb
  · rfl

/-- Four vectors of 128 laid end to end: entry `128 q + o` is entry `o` of vector `q`. -/
theorem stack_entries (f : Fin 4 → FVec Ideal S128 .f32) (q : Fin 4) (r : Fin 512) (o : Fin 128) (hr : r.val = 128 * q.val + o.val) :
    concatenate S512 0 [⟨S128, f 0⟩, ⟨S128, f 1⟩, ⟨S128, f 2⟩, ⟨S128, f 3⟩] concatenates_S128_S128_S128_S128_S512_d0 (ix1 r)
      = f q (ix1 o) := by
  refine concatenate_ofFn_apply (0 : Fin S512.rank) f concatenates_S128_S128_S128_S128_S512_d0 rfl 128 rfl (ix1 r) q
    (show r.val / 128 = q.val by omega) (ix1 o) (show o.val = r.val % 128 by omega) (fun b hb => ?_)
  fin_cases b
  exact absurd rfl hb

/-- The weights the host stacks: the gates' of the four projections, then the projections'. -/
def weightAt : Fin 8 → FVec Ideal S128x256 .f32 :=
  ![σ (Proc.devRef .tc main_arg3), σ (Proc.devRef .tc main_arg7), σ (Proc.devRef .tc main_arg11), σ (Proc.devRef .tc main_arg15),
    σ (Proc.devRef .tc main_arg1), σ (Proc.devRef .tc main_arg5), σ (Proc.devRef .tc main_arg9), σ (Proc.devRef .tc main_arg13)]
/-- The gates' biases. -/
def gateBiasAt : Fin 4 → FVec Ideal S128 .f32 :=
  ![σ (Proc.devRef .tc main_arg4), σ (Proc.devRef .tc main_arg8), σ (Proc.devRef .tc main_arg12), σ (Proc.devRef .tc main_arg16)]
/-- The projections' biases. -/
def projBiasAt : Fin 4 → FVec Ideal S128 .f32 :=
  ![σ (Proc.devRef .tc main_arg2), σ (Proc.devRef .tc main_arg6), σ (Proc.devRef .tc main_arg10), σ (Proc.devRef .tc main_arg14)]

/-- The stacked weights. -/
theorem weights_at (q : Fin 8) (r : Fin 1024) (o : Fin 128) (hr : r.val = 128 * q.val + o.val) (k : Fin 256) :
    StableHlo.after hostOps0 σ (Proc.devRef .tc main_v2) (ix2 r k) = weightAt σ q (ix2 o k) := by
  after_results
  exact stack_rows (weightAt σ) q r o hr k

/-- The tile of the gates' biases: every lane of a row holds the row's bias. -/
theorem gateTile_at (q : Fin 4) (r : Fin 512) (o : Fin 128) (hr : r.val = 128 * q.val + o.val) (l : Fin 128) :
    StableHlo.after hostOps0 σ (Proc.devRef .tc main_v8) (ix2 r l) = gateBiasAt σ q (ix1 o) := by
  refine Eq.trans ?_ (stack_entries (gateBiasAt σ) q r o hr)
  after_results
  pointwise
  rfl

/-- The tile of the projections' biases. -/
theorem projTile_at (q : Fin 4) (r : Fin 512) (o : Fin 128) (hr : r.val = 128 * q.val + o.val) (l : Fin 128) :
    StableHlo.after hostOps0 σ (Proc.devRef .tc main_v10) (ix2 r l) = projBiasAt σ q (ix1 o) := by
  refine Eq.trans ?_ (stack_entries (projBiasAt σ) q r o hr)
  after_results
  pointwise
  rfl

/-- The output gate's bias as a row. -/
theorem gateBias_at (d : Fin 256) :
    StableHlo.after hostOps0 σ (Proc.devRef .tc main_v11) (ix2 (n0 := 1) 0 d) = σ (Proc.devRef .tc main_arg22) (ix1 d) := by
  after_results
  pointwise

/-- The first normalisation's scale as a row. -/
theorem scale_at (d : Fin 256) :
    StableHlo.after hostOps0 σ (Proc.devRef .tc main_v12) (ix2 (n0 := 1) 0 d) = σ (Proc.devRef .tc main_arg17) (ix1 d) := by
  after_results
  pointwise

/-- Its shift as a row. -/
theorem shift_at (d : Fin 256) :
    StableHlo.after hostOps0 σ (Proc.devRef .tc main_v13) (ix2 (n0 := 1) 0 d) = σ (Proc.devRef .tc main_arg18) (ix1 d) := by
  after_results
  pointwise

/-- The output gate's weights, transposed. -/
theorem gateWeights_at (k d : Fin 256) :
    StableHlo.after hostOps0 σ (Proc.devRef .tc main_v4) (ix2 k d) = σ (Proc.devRef .tc main_arg21) (ix2 d k) := by
  after_results
  pointwise

/-- The gated projections, their flat positions unfolded into two. -/
theorem channels_at (r : Fin 512) (i k : Fin 384) :
    StableHlo.after hostOps1 σ (Proc.devRef .tc main_v15) (ix3 r i k)
      = σ (Proc.devRef .tc main_v14_0) (ix2 (n1 := 147456) r ⟨i.val * 384 + k.val, by omega⟩) := by
  after_results
  pointwise

/-- The products, their two positions flattened. -/
theorem products_at (o : Fin 128) (i j : Fin 384) :
    StableHlo.after hostOps2 σ (Proc.devRef .tc main_v26) (ix2 (n1 := 147456) o ⟨i.val * 384 + j.val, by omega⟩)
      = σ (Proc.devRef .tc main_v16) (ix3 o i j) := by
  after_results
  pointwise

/-- The last projection's weights with the second normalisation's scale folded in. -/
theorem folded_at (o : Fin 128) (d : Fin 256) :
    StableHlo.after hostOps2 σ (Proc.devRef .tc main_v21) (ix2 o d)
      = (show EReal from σ (Proc.devRef .tc main_arg23) (ix2 d o)) * (show EReal from σ (Proc.devRef .tc main_arg19) (ix1 o)) := by
  after_results
  pointwise

/-- The last projection's bias with the second normalisation's shift folded in. -/
theorem foldedBias_at (d : Fin 256) :
    StableHlo.after hostOps2 σ (Proc.devRef .tc main_v25) (ix2 (n0 := 1) 0 d)
      = (show EReal from σ (Proc.devRef .tc main_arg24) (ix1 d)) + ∑ o : Fin 128, (show EReal from σ (Proc.devRef .tc main_arg20) (ix1 o)) * (show EReal from σ (Proc.devRef .tc main_arg23) (ix2 d o)) := by
  after_results
  pointwise

/-- The result: position `(i, j)` is row `384 i + j` of the flat result. -/
theorem result_at (i j : Fin 384) (d : Fin 256) :
    StableHlo.after hostOps3 σ (Proc.devRef .tc main_v28) (ix4 0 i j d)
      = σ (Proc.devRef .tc main_v27) (ix2 (n0 := 147456) ⟨i.val * 384 + j.val, by omega⟩ d) := by
  after_results
  pointwise

end Cert.KernelIdeal.Host

end
-- ==== Proof.Result.lean ====
/- The kernel's result, entry by entry, from its arguments: the three launches' arrays read through the host's operations
   between them. -/
module

public import proofs.«01_k».proof.Proof.ArrayProjection
public import proofs.«01_k».proof.Proof.ArrayPairs
public import proofs.«01_k».proof.Proof.ArrayOutput
public import proofs.«01_k».proof.Proof.Host

@[expose] public section

set_option maxRecDepth 16384

noncomputable section

namespace Cert.KernelIdeal.Result

open Idealize.ShloMosaic Idealize.ShloMosaic.TcCoe Idealize.SL.Sem
open Cert.KernelIdeal Cert.KernelIdeal.Gen
open Cert.Spec

/-- The arguments in a valuation. -/
def inputs (σ : Valuation τ sig (Elt Ideal)) : Inputs :=
  Inputs.ofArrays
    (σ (Proc.devRef .tc main_arg0)) (σ (Proc.devRef .tc main_arg1)) (σ (Proc.devRef .tc main_arg2)) (σ (Proc.devRef .tc main_arg3))
    (σ (Proc.devRef .tc main_arg4)) (σ (Proc.devRef .tc main_arg5)) (σ (Proc.devRef .tc main_arg6)) (σ (Proc.devRef .tc main_arg7))
    (σ (Proc.devRef .tc main_arg8)) (σ (Proc.devRef .tc main_arg9)) (σ (Proc.devRef .tc main_arg10)) (σ (Proc.devRef .tc main_arg11))
    (σ (Proc.devRef .tc main_arg12)) (σ (Proc.devRef .tc main_arg13)) (σ (Proc.devRef .tc main_arg14)) (σ (Proc.devRef .tc main_arg15))
    (σ (Proc.devRef .tc main_arg16)) (σ (Proc.devRef .tc main_arg17)) (σ (Proc.devRef .tc main_arg18)) (σ (Proc.devRef .tc main_arg19))
    (σ (Proc.devRef .tc main_arg20)) (σ (Proc.devRef .tc main_arg21)) (σ (Proc.devRef .tc main_arg22)) (σ (Proc.devRef .tc main_arg23))
    (σ (Proc.devRef .tc main_arg24))

variable (m : (ℓ : Loc nD τ sig) → Buf (Elt Ideal) ℓ) (ρ : Dev nD → PrngReg) (c : Dev nD)

/-- Position `(i, j)` of the flat arrays. -/
abbrev flat (i j : Fin 384) : Fin 147456 := ⟨i.val * 384 + j.val, by omega⟩

/-- The normalised row of a position, read from the arguments. -/
theorem zn_eq (i j : Fin 384) :
    ArrayProjection.zn (V1 m ρ c main_v0) (V1 m ρ c main_v12) (V1 m ρ c main_v13) (flat i j)
      = (inputs (W0 m ρ c)).norm varSquares i j := by
  have hz : (fun k => V1 m ρ c main_v0 (ix2 (flat i j) k)) = (inputs (W0 m ρ c)).z i j :=
    funext fun k => Host.flat_at (W0 m ρ c) i j k
  have hs : (fun k => V1 m ρ c main_v12 (ix2 (n0 := 1) 0 k)) = (inputs (W0 m ρ c)).inScale :=
    funext fun k => Host.scale_at (W0 m ρ c) k
  have ht : (fun k => V1 m ρ c main_v13 (ix2 (n0 := 1) 0 k)) = (inputs (W0 m ρ c)).inShift :=
    funext fun k => Host.shift_at (W0 m ρ c) k
  exact congr (congr (congr (congrArg normWith (congrArg varSquares hz)) hz) hs) ht

/-- Channel `128 q + o` of the gated projections. -/
theorem gated_eq (q : Fin 4) (o : Fin 128) (r : Fin 512) (hr : r.val = 128 * q.val + o.val) (i j : Fin 384) :
    V2 m ρ c main_v14_0 (ix2 r (flat i j)) = (inputs (W0 m ρ c)).kernelGated q o i j := by
  have e : V2 m ρ c main_v14_0 = ArrayProjection.gated (V1 m ρ c main_v0) (V1 m ρ c main_v12) (V1 m ρ c main_v13)
      (V1 m ρ c main_v2) (V1 m ρ c main_v8) (V1 m ρ c main_v10) :=
    (W2_arr m ρ c 8).trans (ArrayProjection.final_gated (V1 m ρ) c)
  rw [e]
  unfold Inputs.kernelGated
  rw [← zn_eq m ρ c i j]
  unfold ArrayProjection.gated
  refine congr (congr (congr (congr (congrArg gatedTanh rfl) ?_) ?_) ?_) ?_
  · refine funext fun k => (Host.weights_at (W0 m ρ c) (q.castLE (by decide)) _ o hr k).trans ?_
    fin_cases q <;> rfl
  · refine funext fun k => (Host.weights_at (W0 m ρ c) ⟨q.val + 4, by omega⟩ _ o (show 512 + r.val = 128 * (q.val + 4) + o.val by omega) k).trans ?_
    fin_cases q <;> rfl
  · exact Host.gateTile_at (W0 m ρ c) q r o hr _
  · exact Host.projTile_at (W0 m ρ c) q r o hr _

/-- The products, read from the arguments. -/
theorem product_eq (i j : Fin 384) (o : Fin 128) :
    V5 m ρ c main_v26 (ix2 o (flat i j)) = (inputs (W0 m ρ c)).kernelProduct i j o := by
  have e : V4 m ρ c main_v16 = ArrayPairs.pairs (V3 m ρ c main_v15) :=
    (W4_arr m ρ c 4).trans (ArrayPairs.final_pairs (V3 m ρ) c)
  refine (Host.products_at (W4 m ρ c) o i j).trans ((congrFun e _).trans ?_)
  have h (q : Fin 4) (r : Fin 512) (hr : r.val = 128 * q.val + o.val) (i k : Fin 384) :
      V3 m ρ c main_v15 (ix3 r i k) = (inputs (W0 m ρ c)).kernelGated q o i k :=
    (Host.channels_at (W2 m ρ c) r i k).trans (gated_eq m ρ c q o r hr i k)
  show pairProduct _ _ _ _ = pairProduct _ _ _ _
  congr 1
  · exact funext fun k => h 0 _ (Nat.zero_add _).symm i k
  · exact funext fun k => h 1 _ rfl j k
  · exact funext fun k => h 2 _ rfl i k
  · exact funext fun k => h 3 _ rfl j k

/-- The output gate before its bias, read from the arguments. -/
theorem gate_eq (i j : Fin 384) (d : Fin 256) :
    (show EReal from V5 m ρ c main_v14_1 (ix2 (flat i j) d))
      = ∑ k, (inputs (W0 m ρ c)).norm varSquares i j k * (inputs (W0 m ρ c)).goW d k := by
  have e : V5 m ρ c main_v14_1 = ArrayProjection.gate (V1 m ρ c main_v0) (V1 m ρ c main_v12) (V1 m ρ c main_v13) (V1 m ρ c main_v4) :=
    ((W5_of m ρ c main_v14_1 (by decide)).trans ((W4_of m ρ c main_v14_1 (by decide)).trans
      (W3_of m ρ c main_v14_1 (by decide)))).trans ((W2_arr m ρ c 9).trans (ArrayProjection.final_gate (V1 m ρ) c))
  rw [e, ← zn_eq m ρ c i j]
  exact Finset.sum_congr rfl fun k _ => congrArg _ (Host.gateWeights_at (W0 m ρ c) k d)

/-- The output gate's bias is still there when the third kernel starts. -/
theorem gateBias_eq (d : Fin 256) : V5 m ρ c main_v11 (ix2 (n0 := 1) 0 d) = (inputs (W0 m ρ c)).goB d := by
  have e : V5 m ρ c main_v11 = V1 m ρ c main_v11 :=
    (W5_of m ρ c main_v11 (by decide)).trans ((W4_of m ρ c main_v11 (by decide)).trans
      ((W3_of m ρ c main_v11 (by decide)).trans (W2_of m ρ c main_v11 (by decide))))
  rw [e]
  exact Host.gateBias_at (W0 m ρ c) d

/-- The kernel's result. -/
theorem result_eq (i j : Fin 384) (d : Fin 256) :
    W7 m ρ c (Proc.devRef .tc main_v28) (ix4 0 i j d) = (inputs (W0 m ρ c)).kernelEntry i j d := by
  have e : V6 m ρ c main_v27 = ArrayOutput.output (V5 m ρ c main_v26) (V5 m ρ c main_v14_1) (V5 m ρ c main_v21)
      (V5 m ρ c main_v25) (V5 m ρ c main_v11) :=
    (W6_arr m ρ c 5).trans (ArrayOutput.final_output (V5 m ρ) c)
  have h19 : W4 m ρ c (Proc.devRef .tc main_arg19) = W0 m ρ c (Proc.devRef .tc main_arg19) := W4_args m ρ c _ (by decide)
  have h20 : W4 m ρ c (Proc.devRef .tc main_arg20) = W0 m ρ c (Proc.devRef .tc main_arg20) := W4_args m ρ c _ (by decide)
  have h23 : W4 m ρ c (Proc.devRef .tc main_arg23) = W0 m ρ c (Proc.devRef .tc main_arg23) := W4_args m ρ c _ (by decide)
  have h24 : W4 m ρ c (Proc.devRef .tc main_arg24) = W0 m ρ c (Proc.devRef .tc main_arg24) := W4_args m ρ c _ (by decide)
  refine (Host.result_at (W6 m ρ c) i j d).trans ((congrFun e _).trans ?_)
  show outFolded _ _ _ _ = outFolded _ _ _ _
  congr 1
  · exact funext fun o => product_eq m ρ c i j o
  · refine funext fun o => (Host.folded_at (W4 m ρ c) o d).trans ?_
    rw [h19, h23]; rfl
  · refine (Host.foldedBias_at (W4 m ρ c) d).trans ?_
    rw [h20, h23, h24]; rfl
  · exact congrArg₂ (fun a b : EReal => a + b) (gate_eq m ρ c i j d) (gateBias_eq m ρ c d)

end Cert.KernelIdeal.Result

end
-- ==== Proof.Reference.lean ====
/- The reference's arrays, entry by entry, from its arguments: the normalised input and the products. -/
module

public import proofs.«01_k».proof.Proof.Gen.ReferenceIdeal.Run
public import proofs.«01_k».proof.Proof.Equation

@[expose] public section

set_option maxRecDepth 16384

noncomputable section

namespace Cert.ReferenceIdeal.Result

open Idealize.ShloMosaic Idealize.ShloMosaic.TcCoe Idealize.SL.Sem
open Cert.ReferenceIdeal Cert.ReferenceIdeal.Gen Cert.ReferenceIdeal.Value
open Cert.Spec

/-- The arguments in a valuation. -/
def inputs (σ : Valuation τ sig (Elt Ideal)) : Inputs :=
  Inputs.ofArrays
    (σ (Proc.devRef .tc main_arg0)) (σ (Proc.devRef .tc main_arg1)) (σ (Proc.devRef .tc main_arg2)) (σ (Proc.devRef .tc main_arg3))
    (σ (Proc.devRef .tc main_arg4)) (σ (Proc.devRef .tc main_arg5)) (σ (Proc.devRef .tc main_arg6)) (σ (Proc.devRef .tc main_arg7))
    (σ (Proc.devRef .tc main_arg8)) (σ (Proc.devRef .tc main_arg9)) (σ (Proc.devRef .tc main_arg10)) (σ (Proc.devRef .tc main_arg11))
    (σ (Proc.devRef .tc main_arg12)) (σ (Proc.devRef .tc main_arg13)) (σ (Proc.devRef .tc main_arg14)) (σ (Proc.devRef .tc main_arg15))
    (σ (Proc.devRef .tc main_arg16)) (σ (Proc.devRef .tc main_arg17)) (σ (Proc.devRef .tc main_arg18)) (σ (Proc.devRef .tc main_arg19))
    (σ (Proc.devRef .tc main_arg20)) (σ (Proc.devRef .tc main_arg21)) (σ (Proc.devRef .tc main_arg22)) (σ (Proc.devRef .tc main_arg23))
    (σ (Proc.devRef .tc main_arg24))

variable (σ : Valuation τ sig (Elt Ideal))

/-- The variance's divisor: the width less the correction, which is zero. -/
theorem width_sub : HSub.hSub (α := EReal) (β := EReal) (γ := EReal) (Ideal.ofBits .f32 0x43800000#32)
    (FloatOps.sitofp (F := Ideal) .f32 0#32) = width := by
  show width - (((0#32 : BitVec 32).toInt : ℝ) : EReal) = width
  simp

/-- The second variance's divisor, likewise. -/
theorem channels_sub :
    HSub.hSub (α := EReal) (β := EReal) (γ := EReal) (Ideal.ofBits .f32 0x43000000#32)
      (FloatOps.sitofp (F := Ideal) .f32 0#32) = channels := by
  show channels - (((0#32 : BitVec 32).toInt : ℝ) : EReal) = channels
  simp

theorem width_pos : 0 < width := by rw [width_eq]; exact EReal.coe_pos.2 (by norm_num)

theorem channels_pos : 0 < channels := by rw [channels_eq]; exact EReal.coe_pos.2 (by norm_num)

/-- The normalised input. -/
theorem norm_at (i j : Fin 384) (d : Fin 256) :
    res_main_v17 (F := Ideal) σ (ix4 0 i j d) = (inputs σ).norm varCentred i j d := by
  pointwise [res_main_v17, res_main_call0_v5, res_main_call0_v8]
  rw [width_sub, if_pos width_pos]
  rfl

/-- The products. -/
theorem product_at (i j : Fin 384) (o : Fin 128) :
    res_main_v90 (F := Ideal) σ (ix4 0 i j o) = (inputs σ).referenceProduct i j o := by
  pointwise [res_main_v90]
  simp only [norm_at]
  rfl

/-- The result. -/
theorem result_at (i j : Fin 384) (d : Fin 256) :
    val3 (F := Ideal) σ (Proc.devRef .tc main_v125) (ix4 0 i j d) = (inputs σ).referenceEntry i j d := by
  rw [val3_main_v125]
  pointwise [res_main_call1_v5, res_main_call1_v8]
  simp only [norm_at, product_at]
  rw [channels_sub, if_pos channels_pos]
  rfl

end Cert.ReferenceIdeal.Result

end
-- ==== Proof.Precondition.lean ====
/- What the precondition says: every entry of the input, of the last projection's weights and of the second
   normalisation's shift is a real number. -/
module

public import proofs.«01_k».proof.Pre_finite_inputs
public import Idealize.ShloMosaic.Lib.ReduceAll
public import proofs.«01_k».proof.Proof.Spec

@[expose] public section

noncomputable section

namespace Cert.Pre_finite_inputs

open Idealize.ShloMosaic

/-- The side conditions of the precondition's operations. -/
instance facts : Facts where
  bcast_S_S1x384x384x256 := by decide
  reducesTo_S1x384x384x256_S_d0_1_2_3 := by decide
  h_S_ := by decide
  bcast_S_S256x128 := by decide
  reducesTo_S256x128_S_d0_1 := by decide
  bcast_S_S128 := by decide
  reducesTo_S128_S_d0 := by decide

/-- The precondition's bound is the infinity. -/
theorem bound_eq : Ideal.ofBits .f32 0x7F800000#32 = ⊤ := by simp [Ideal.ofBits, Ideal.ieee]

/-- An extended real whose absolute value is below the bound is a real number. -/
theorem real_of_lt (x : EReal) (h : Ideal.cmp .olt (max x (-x)) (Ideal.ofBits .f32 0x7F800000#32) = 1#1) :
    ∃ r : ℝ, x = r := by
  rw [bound_eq] at h
  induction x with
  | bot => simp [Ideal.cmp] at h
  | top => simp [Ideal.cmp] at h
  | coe r => exact ⟨r, rfl⟩

/-- An index of a single number: there is one. -/
instance : Subsingleton S_.Idx := ⟨fun _ _ => funext fun k => k.elim0⟩

/-- An array passing the test has real entries. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : ∃ r : ℝ, x i = (r : EReal) :=
  real_of_lt (x i) (Host.reduce_andi_all _ _ hr hu j e i)

end Cert.Pre_finite_inputs

end
-- ==== Proof.lean ====
/- The certificate: each claim of `Cert.Claim` from its module. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Launch
public import proofs.«01_k».proof.Proof.Result
public import proofs.«01_k».proof.Proof.Reference
public import proofs.«01_k».proof.Proof.Precondition
public import Idealize.ShloMosaic.Adequacy
public import Idealize.ShloMosaic.Init

@[expose] public section

noncomputable section

namespace Cert.Proof

open Idealize.ShloMosaic Idealize.ShloMosaic.TcCoe Idealize.SL.Sem
open Cert.KernelIdeal.Gen (W0 W7 mem_uc W7_main_arg0 W7_main_arg1 W7_main_arg2 W7_main_arg3 W7_main_arg4 W7_main_arg5
  W7_main_arg6 W7_main_arg7 W7_main_arg8 W7_main_arg9 W7_main_arg10 W7_main_arg11 W7_main_arg12 W7_main_arg13 W7_main_arg14
  W7_main_arg15 W7_main_arg16 W7_main_arg17 W7_main_arg18 W7_main_arg19 W7_main_arg20 W7_main_arg21 W7_main_arg22 W7_main_arg23
  W7_main_arg24)

/-- The kernel ends from every start, changes no argument and leaves every counter at zero. -/
theorem frame_kernel : Cert.quiescent_Kernel (hKernel := Cert.Kernel.Gen.facts) :=
  fun m ρ _ => Cert.Kernel.Gen.frame m ρ

/-- So does its reading over the extended reals. -/
theorem frame_kernelIdeal : Cert.quiescent_KernelIdeal (hKernelIdeal := Cert.KernelIdeal.Gen.facts) :=
  fun m ρ _ => Cert.KernelIdeal.Gen.frame m ρ

/-- So does the reference. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where the precondition holds, the entries it names are real numbers. -/
theorem real_of_pre (m : (ℓ : Loc Cert.KernelIdeal.nD Cert.KernelIdeal.τ Cert.KernelIdeal.sig) → Buf (Elt Ideal) ℓ)
    (g : Dev Cert.KernelIdeal.nD → PrngReg)
    (h : Cert.Pre_KernelIdeal_finite_inputs (hPre_finite_inputs := Cert.Pre_finite_inputs.facts) m)
    (c : Dev Cert.KernelIdeal.nD) :
    (∀ i j k, ∃ r : ℝ, (Cert.KernelIdeal.Result.inputs (W0 m g c)).z i j k = r)
    ∧ (∀ o, ∃ r : ℝ, (Cert.KernelIdeal.Result.inputs (W0 m g c)).outShift o = r)
    ∧ ∀ d o, ∃ r : ℝ, (Cert.KernelIdeal.Result.inputs (W0 m g c)).outW d o = r := by
  have e := congrFun (h c) ix0
  obtain ⟨e1, e20⟩ := IntOp.andi_eq_one.1 e
  obtain ⟨e0, e23⟩ := IntOp.andi_eq_one.1 e1
  exact ⟨fun i j k => Cert.Pre_finite_inputs.real_of_all _ _ _ _ _ e0 (ix4 0 i j k),
    fun o => Cert.Pre_finite_inputs.real_of_all _ _ _ _ _ e20 (ix1 o),
    fun d o => Cert.Pre_finite_inputs.real_of_all _ _ _ _ _ e23 (ix2 d o)⟩

/-- The result of the kernel over the extended reals is the reference's where the precondition holds. -/
theorem algebraic : Cert.algebraic_KernelIdeal_ReferenceIdeal_pre_finite_inputs
    (hKernelIdeal := Cert.KernelIdeal.Gen.facts) (hReferenceIdeal := Cert.ReferenceIdeal.Gen.facts)
    (hPre_finite_inputs := Cert.Pre_finite_inputs.facts) := by
  intro m g m' g' hpre hargs
  refine ⟨fun c => W7 m g c (Proc.devRef .tc Cert.KernelIdeal.main_v28), ?_, ?_⟩
  · exact (θ_run Cert.KernelIdeal.defs _ _).mono (fun r h c => ⟨h c _ (mem_uc Cert.KernelIdeal.main_v28 (by decide)),
      (h c _ (mem_uc Cert.KernelIdeal.main_arg0 (by decide))).trans (W7_main_arg0 m g c),
      (h c _ (mem_uc Cert.KernelIdeal.main_arg1 (by decide))).trans (W7_main_arg1 m g c),
      (h c _ (mem_uc Cert.KernelIdeal.main_arg2 (by decide))).trans (W7_main_arg2 m g c),
      (h c _ (mem_uc Cert.KernelIdeal.main_arg3 (by decide))).trans (W7_main_arg3 m g c),
      (h c _ (mem_uc Cert.KernelIdeal.main_arg4 (by decide))).trans (W7_main_arg4 m g c),
      (h c _ (mem_uc Cert.KernelIdeal.main_arg5 (by decide))).trans (W7_main_arg5 m g c),
      (h c _ (mem_uc Cert.KernelIdeal.main_arg6 (by decide))).trans (W7_main_arg6 m g c),
      (h c _ (mem_uc Cert.KernelIdeal.main_arg7 (by decide))).trans (W7_main_arg7 m g c),
      (h c _ (mem_uc Cert.KernelIdeal.main_arg8 (by decide))).trans (W7_main_arg8 m g c),
      (h c _ (mem_uc Cert.KernelIdeal.main_arg9 (by decide))).trans (W7_main_arg9 m g c),
      (h c _ (mem_uc Cert.KernelIdeal.main_arg10 (by decide))).trans (W7_main_arg10 m g c),
      (h c _ (mem_uc Cert.KernelIdeal.main_arg11 (by decide))).trans (W7_main_arg11 m g c),
      (h c _ (mem_uc Cert.KernelIdeal.main_arg12 (by decide))).trans (W7_main_arg12 m g c),
      (h c _ (mem_uc Cert.KernelIdeal.main_arg13 (by decide))).trans (W7_main_arg13 m g c),
      (h c _ (mem_uc Cert.KernelIdeal.main_arg14 (by decide))).trans (W7_main_arg14 m g c),
      (h c _ (mem_uc Cert.KernelIdeal.main_arg15 (by decide))).trans (W7_main_arg15 m g c),
      (h c _ (mem_uc Cert.KernelIdeal.main_arg16 (by decide))).trans (W7_main_arg16 m g c),
      (h c _ (mem_uc Cert.KernelIdeal.main_arg17 (by decide))).trans (W7_main_arg17 m g c),
      (h c _ (mem_uc Cert.KernelIdeal.main_arg18 (by decide))).trans (W7_main_arg18 m g c),
      (h c _ (mem_uc Cert.KernelIdeal.main_arg19 (by decide))).trans (W7_main_arg19 m g c),
      (h c _ (mem_uc Cert.KernelIdeal.main_arg20 (by decide))).trans (W7_main_arg20 m g c),
      (h c _ (mem_uc Cert.KernelIdeal.main_arg21 (by decide))).trans (W7_main_arg21 m g c),
      (h c _ (mem_uc Cert.KernelIdeal.main_arg22 (by decide))).trans (W7_main_arg22 m g c),
      (h c _ (mem_uc Cert.KernelIdeal.main_arg23 (by decide))).trans (W7_main_arg23 m g c),
      (h c _ (mem_uc Cert.KernelIdeal.main_arg24 (by decide))).trans (W7_main_arg24 m g c)⟩) (Cert.KernelIdeal.Result.run m g)
  · refine (θ_run Cert.ReferenceIdeal.defs _ _).mono (fun r h c => ⟨(h c).1.trans ?_, (h c).2⟩)
      (Cert.ReferenceIdeal.Value.run (F := Ideal) m' g')
    refine (Cert.ReferenceIdeal.Value.val3_main_v125 (StableHlo.launchContents m' c)).symm.trans (funext fun x => ?_)
    obtain ⟨u, i, j, d, rfl⟩ : ∃ (u : Fin 1) (i j : Fin 384) (d : Fin 256), x = ix4 u i j d :=
      ⟨x 0, x 1, x 2, x 3, eq_ix4 x⟩
    obtain rfl : u = 0 := Subsingleton.elim _ _
    obtain ⟨hz, ht, hw⟩ := real_of_pre m g hpre c
    refine (Cert.ReferenceIdeal.Result.result_at (StableHlo.launchContents m' c) i j d).trans
      (Eq.trans ?_ (Cert.KernelIdeal.Result.result_eq m g c i j d).symm)
    obtain ⟨h0, h1, h2, h3, h4, h5, h6, h7, h8, h9, h10, h11, h12, h13, h14, h15, h16, h17, h18, h19, h20, h21, h22, h23, h24⟩
      := hargs c
    rw [Cert.Spec.entry_eq _ hz ht hw]
    have e : Cert.ReferenceIdeal.Result.inputs (StableHlo.launchContents m' c) = Cert.KernelIdeal.Result.inputs (W0 m g c) := by
      let at' (b : Ref Cert.ReferenceIdeal.sig .tc) := (c.tc : Thread Cert.ReferenceIdeal.nD Cert.ReferenceIdeal.τ).loc b
      change Cert.Spec.Inputs.ofArrays
        (m' (at' Cert.ReferenceIdeal.main_arg0)) (m' (at' Cert.ReferenceIdeal.main_arg1)) (m' (at' Cert.ReferenceIdeal.main_arg2))
        (m' (at' Cert.ReferenceIdeal.main_arg3)) (m' (at' Cert.ReferenceIdeal.main_arg4)) (m' (at' Cert.ReferenceIdeal.main_arg5))
        (m' (at' Cert.ReferenceIdeal.main_arg6)) (m' (at' Cert.ReferenceIdeal.main_arg7)) (m' (at' Cert.ReferenceIdeal.main_arg8))
        (m' (at' Cert.ReferenceIdeal.main_arg9)) (m' (at' Cert.ReferenceIdeal.main_arg10)) (m' (at' Cert.ReferenceIdeal.main_arg11))
        (m' (at' Cert.ReferenceIdeal.main_arg12)) (m' (at' Cert.ReferenceIdeal.main_arg13)) (m' (at' Cert.ReferenceIdeal.main_arg14))
        (m' (at' Cert.ReferenceIdeal.main_arg15)) (m' (at' Cert.ReferenceIdeal.main_arg16)) (m' (at' Cert.ReferenceIdeal.main_arg17))
        (m' (at' Cert.ReferenceIdeal.main_arg18)) (m' (at' Cert.ReferenceIdeal.main_arg19)) (m' (at' Cert.ReferenceIdeal.main_arg20))
        (m' (at' Cert.ReferenceIdeal.main_arg21)) (m' (at' Cert.ReferenceIdeal.main_arg22)) (m' (at' Cert.ReferenceIdeal.main_arg23))
        (m' (at' Cert.ReferenceIdeal.main_arg24)) = _
      dsimp only [at']
      rw [h0, h1, h2, h3, h4, h5, h6, h7, h8, h9, h10, h11, h12, h13, h14, h15, h16, h17, h18, h19, h20, h21, h22, h23, h24]
      rfl
    rw [e]

/-- The certificate. -/
theorem claim : Cert.Claim :=
  ⟨Cert.Kernel.Gen.facts, Cert.KernelIdeal.Gen.facts, Cert.ReferenceIdeal.Gen.facts, Cert.Pre_finite_inputs.facts,
    frame_kernel, frame_kernelIdeal, fun m g _ => frame_kernelIdeal m g trivial, frame_referenceIdeal,
    fun m g _ => frame_referenceIdeal m g trivial, trivial, algebraic⟩

end Cert.Proof

end
